-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_SecantIdeal (m : (ℓ : Loc Cert.SecantIdeal.nD Cert.SecantIdeal.τ Cert.SecantIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_SecantIdeal [hSecantIdeal : Cert.SecantIdeal.Facts] : Prop :=
  ∀ (m : (ℓ : Loc Cert.SecantIdeal.nD Cert.SecantIdeal.τ Cert.SecantIdeal.sig) → Buf (Elt Ideal) ℓ) (g : Dev Cert.SecantIdeal.nD → PrngReg), Pre_SecantIdeal m →
    θ_run (Cert.SecantIdeal.defs (F := Ideal)) (onTc (τ := Cert.SecantIdeal.τ) (Cert.SecantIdeal.main (F := Ideal))) ⟨m, fun _ => 0, g⟩ (fun r => (∀ c : Dev Cert.SecantIdeal.nD,
      r.2.mem ((c.tc : Thread Cert.SecantIdeal.nD Cert.SecantIdeal.τ).loc Cert.SecantIdeal.main_arg0) = m ((c.tc : Thread Cert.SecantIdeal.nD Cert.SecantIdeal.τ).loc Cert.SecantIdeal.main_arg0))
      ∧ r.2.sem = fun _ => 0)

def preserves_Kernel_KernelIdeal : Prop :=
  True

def algebraic_KernelIdeal_ReferenceIdeal_on_exact_rows [hKernelIdeal : Cert.KernelIdeal.Facts] [hReferenceIdeal : Cert.ReferenceIdeal.Facts] [hOn_exact_rows : Cert.On_exact_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![128, 32768]⟩ : Shape).Idx, (Cert.On_exact_rows.fn (F := Ideal) (m ((c.tc : Thread Cert.KernelIdeal.nD Cert.KernelIdeal.τ).loc Cert.KernelIdeal.main_arg0))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![128, 32768]⟩ : Shape).Idx, (Cert.On_exact_rows.fn (F := Ideal) (m ((c.tc : Thread Cert.KernelIdeal.nD Cert.KernelIdeal.τ).loc Cert.KernelIdeal.main_arg0))) i = 1#1 → r.2.mem ((c.tc : Thread Cert.ReferenceIdeal.nD Cert.ReferenceIdeal.τ).loc Cert.ReferenceIdeal.main_v41) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def algebraic_KernelIdeal_SecantIdeal [hKernelIdeal : Cert.KernelIdeal.Facts] [hSecantIdeal : Cert.SecantIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SecantIdeal.nD Cert.SecantIdeal.τ Cert.SecantIdeal.sig) → Buf (Elt Ideal) ℓ) (g' : Dev Cert.SecantIdeal.nD → PrngReg), Pre_KernelIdeal m →
    (∀ c : Dev Cert.KernelIdeal.nD,
      m' ((c.tc : Thread Cert.SecantIdeal.nD Cert.SecantIdeal.τ).loc Cert.SecantIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.SecantIdeal.defs (F := Ideal)) (onTc (τ := Cert.SecantIdeal.τ) (Cert.SecantIdeal.main (F := Ideal))) ⟨m', fun _ => 0, g'⟩ (fun r => ∀ c : Dev Cert.SecantIdeal.nD,
          r.2.mem ((c.tc : Thread Cert.SecantIdeal.nD Cert.SecantIdeal.τ).loc Cert.SecantIdeal.main_v220) = v0 c
          ∧ r.2.mem ((c.tc : Thread Cert.SecantIdeal.nD Cert.SecantIdeal.τ).loc Cert.SecantIdeal.main_arg0) = m' ((c.tc : Thread Cert.SecantIdeal.nD Cert.SecantIdeal.τ).loc Cert.SecantIdeal.main_arg0))

def holds_KernelIdeal_near_entmax15 [hKernelIdeal : Cert.KernelIdeal.Facts] [hPost_near_entmax15 : Cert.Post_near_entmax15.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ (Cert.Post_near_entmax15.fn (F := Ideal) (m ((c.tc : Thread Cert.KernelIdeal.nD Cert.KernelIdeal.τ).loc Cert.KernelIdeal.main_arg0)) (r.2.mem ((c.tc : Thread Cert.KernelIdeal.nD Cert.KernelIdeal.τ).loc Cert.KernelIdeal.main_v0))) = (fun _ => 1#1))

def Claim : Prop :=
  ∃ (hKernel : Cert.Kernel.Facts) (hKernelIdeal : Cert.KernelIdeal.Facts) (hReferenceIdeal : Cert.ReferenceIdeal.Facts) (hSecantIdeal : Cert.SecantIdeal.Facts) (hPost_near_entmax15 : Cert.Post_near_entmax15.Facts) (hOn_exact_rows : Cert.On_exact_rows.Facts),
    quiescent_Kernel (hKernel := hKernel)
    ∧ quiescent_KernelIdeal (hKernelIdeal := hKernelIdeal)
    ∧ quiescent_ReferenceIdeal (hReferenceIdeal := hReferenceIdeal)
    ∧ quiescent_SecantIdeal (hSecantIdeal := hSecantIdeal)
    ∧ preserves_Kernel_KernelIdeal
    ∧ algebraic_KernelIdeal_ReferenceIdeal_on_exact_rows (hKernelIdeal := hKernelIdeal) (hReferenceIdeal := hReferenceIdeal) (hOn_exact_rows := hOn_exact_rows)
    ∧ algebraic_KernelIdeal_SecantIdeal (hKernelIdeal := hKernelIdeal) (hSecantIdeal := hSecantIdeal)
    ∧ holds_KernelIdeal_near_entmax15 (hKernelIdeal := hKernelIdeal) (hPost_near_entmax15 := hPost_near_entmax15)
-- ==== On_exact_rows.lean ====
abbrev S128x32768 : Shape := ⟨2, ![128, 32768]⟩
abbrev S_ : Shape := ⟨0, ![]⟩
abbrev S128 : Shape := ⟨1, ![128]⟩
abbrev S128x1 : Shape := ⟨2, ![128, 1]⟩

class Facts : Prop where
  reducesTo_S128x32768_S128_d1 : S128x32768.ReducesTo [1] S128
  h_S_ : 0 < S_.numel
  bcast_S128_S128x1_0 : S128.BroadcastsInDim S128x1 (![0] : Fin 1 → Fin S128x1.rank)
  bcast_S128x1_S128x32768_0_1 : S128x1.BroadcastsInDim S128x32768 (![0, 1] : Fin 2 → Fin S128x32768.rank)
  bcast_S_S128x1 : S_.BroadcastsInDim S128x1 (![] : Fin 0 → Fin S128x1.rank)
  bcast_S_S128x32768 : S_.BroadcastsInDim S128x32768 (![] : Fin 0 → Fin S128x32768.rank)

variable [Facts]

def fn {F : FTy → Type} [FloatOps F] (main_arg0 : FVec F S128x32768 .f32) : IVec S128x32768 1 :=
  let main_cst : FVec F S_ .f32 := constant S_ .f32 0xFF800000#32
  let main_v0 : FVec F S128 .f32 := (fun x v => Host.reduce FloatOps.maximumf x v reducesTo_S128x32768_S128_d1 h_S_) main_arg0 main_cst
  let main_v1 : FVec F S128x1 .f32 := broadcastInDim S128x1 ![0] bcast_S128_S128x1_0 main_v0
  let main_v2 : FVec F S128x32768 .f32 := broadcastInDim S128x32768 ![0, 1] bcast_S128x1_S128x32768_0_1 main_v1
  let main_v3 : IVec S128x32768 1 := cmpf .oeq main_arg0 main_v2
  let main_cst_0 : FVec F S_ .f32 := constant S_ .f32 0x3F800000#32
  let main_v4 : FVec F S128x1 .f32 := broadcastInDim S128x1 ![] bcast_S_S128x1 main_cst_0
  let main_v5 : FVec F S128x1 .f32 := subf main_v1 main_v4
  let main_v6 : FVec F S128x32768 .f32 := broadcastInDim S128x32768 ![0, 1] bcast_S128x1_S128x32768_0_1 main_v5
  let main_v7 : IVec S128x32768 1 := cmpf .ole main_arg0 main_v6
  let main_v8 : IVec S128x32768 1 := ori main_v3 main_v7
  let main_v9 : FVec F S128x32768 .f32 := Host.absf main_arg0
  let main_cst_1 : FVec F S_ .f32 := constant S_ .f32 0x7F800000#32
  let main_v10 : FVec F S128x32768 .f32 := broadcastInDim S128x32768 ![] bcast_S_S128x32768 main_cst_1
  let main_v11 : IVec S128x32768 1 := cmpf .olt main_v9 main_v10
  let main_v12 : IVec S128x32768 1 := andi main_v11 main_v8
  let main_c : IVec S_ 1 := constantI S_ 1 1#1
  let main_v13 : IVec S128 1 := (fun x v => Host.reduce IntOp.andi x v reducesTo_S128x32768_S128_d1 h_S_) main_v12 main_c
  let main_v14 : IVec S128x1 1 := broadcastInDim S128x1 ![0] bcast_S128_S128x1_0 main_v13
  let main_v15 : IVec S128x32768 1 := broadcastInDim S128x32768 ![0, 1] bcast_S128x1_S128x32768_0_1 main_v14
  main_v15
-- ==== Post_near_entmax15.lean ====
abbrev S128x32768 : Shape := ⟨2, ![128, 32768]⟩
abbrev S_ : Shape := ⟨0, ![]⟩
abbrev S128 : Shape := ⟨1, ![128]⟩
abbrev S128x1 : Shape := ⟨2, ![128, 1]⟩
abbrev S32768 : Shape := ⟨1, ![32768]⟩
abbrev S1x32768 : Shape := ⟨2, ![1, 32768]⟩
abbrev S128x1x1 : Shape := ⟨3, ![128, 1, 1]⟩
abbrev S1 : Shape := ⟨1, ![1]⟩
abbrev S1x1x1 : Shape := ⟨3, ![1, 1, 1]⟩

class Facts : Prop where
  bcast_S_S128x32768 : S_.BroadcastsInDim S128x32768 (![] : Fin 0 → Fin S128x32768.rank)
  reducesTo_S128x32768_S128_d1 : S128x32768.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x32768_0_1 : S128x1.BroadcastsInDim S128x32768 (![0, 1] : Fin 2 → Fin S128x32768.rank)
  bcast_S_S32768 : S_.BroadcastsInDim S32768 (![] : Fin 0 → Fin S32768.rank)
  shapeCasts_S32768_S1x32768 : S32768.ShapeCasts S1x32768
  bcast_S_S_ : S_.BroadcastsInDim S_ (![] : Fin 0 → Fin S_.rank)
  reduceWindows_S128x32768_S128x32768_w1s1p0_0_w32768s1p32767_0 : S128x32768.ReduceWindows (![1, 32768] : Fin 2 → Nat) ![1, 1] ![0, 32767] ![0, 0] S128x32768
  bcast_S1x32768_S128x32768_0_1 : S1x32768.BroadcastsInDim S128x32768 (![0, 1] : Fin 2 → Fin S128x32768.rank)
  natLt_1_32 : 1 < 32
  shapeCasts_S128x1_S128x1x1 : S128x1.ShapeCasts S128x1x1
  bcast_S_S128x1x1 : S_.BroadcastsInDim S128x1x1 (![] : Fin 0 → Fin S128x1x1.rank)
  bcast_S1_S1x1x1_2 : S1.BroadcastsInDim S1x1x1 (![2] : Fin 1 → Fin S1x1x1.rank)
  bcast_S1x1x1_S128x1x1_0_1_2 : S1x1x1.BroadcastsInDim S128x1x1 (![0, 1, 2] : Fin 3 → Fin S128x1x1.rank)
  reducesTo_S128x1x1_S128x1_d2 : S128x1x1.ReducesTo [2] S128x1
  gather_S128x32768_S128x1x1_S128x1_n_1_0_0_1_2_11_wf : GatherDims.WF S128x32768 S128x1x1 S128x1 [] [1] [0] [1] [0] 2 ![1, 1]

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9
def gather_S128x32768_S128x1x1_S128x1_n_1_0_0_1_2_11 : GatherDims S128x32768 S128x1x1 S128x1 where
  offsetDims := []
  collapsedSliceDims := [1]
  operandBatchingDims := [0]
  startIndicesBatchingDims := [0]
  startIndexMap := [1]
  indexVectorDim := 2
  sliceSizes := ![1, 1]
  wf := gather_S128x32768_S128x1x1_S128x1_n_1_0_0_1_2_11_wf

def fn_sort {F : FTy → Type} [FloatOps F] (arg0 : FVec F S128x32768 .f32) : FVec F S128x32768 .f32 :=
  let v0 : FVec F S128x32768 .f32 := (fun x => Host.sort S128x32768 1 comparator_f32_d1 x) arg0
  v0

def fn_cumsum_0 {F : FTy → Type} [FloatOps F] (arg0 : FVec F S128x32768 .f32) : FVec F S128x32768 .f32 :=
  let cst : FVec F S_ .f32 := constant S_ .f32 0x00000000#32
  let v0 : FVec F S_ .f32 := broadcastInDim S_ ![] bcast_S_S_ cst
  let v1 : FVec F S128x32768 .f32 := (fun x v => Host.reduceWindowAdd ![1, 32768] ![1, 1] ![0, 32767] ![0, 0] x v reduceWindows_S128x32768_S128x32768_w1s1p0_0_w32768s1p32767_0 h_S_) arg0 v0
  v1

def fn_cumsum {F : FTy → Type} [FloatOps F] (arg0 : FVec F S128x32768 .f32) : FVec F S128x32768 .f32 :=
  let v0 : FVec F S128x32768 .f32 := fn_cumsum_0 (F := F) arg0
  v0

def fn_clip {F : FTy → Type} [FloatOps F] (arg0 : FVec F S128x32768 .f32) (arg1 : FVec F S_ .f32) : FVec F S128x32768 .f32 :=
  let v0 : FVec F S_ .f32 := id arg1
  let v1 : FVec F S128x32768 .f32 := broadcastInDim S128x32768 ![] bcast_S_S128x32768 v0
  let v2 : FVec F S128x32768 .f32 := maximumf v1 arg0
  v2

def fn_clip_1 {F : FTy → Type} [FloatOps F] (arg0 : IVec S128x1 32) (arg1 : IVec S_ 32) : IVec S128x1 32 :=
  let v0 : IVec S_ 32 := id arg1
  let v1 : IVec S128x1 32 := broadcastInDim S128x1 ![] bcast_S_S128x1 v0
  let v2 : IVec S128x1 32 := maxsi v1 arg0
  v2

def fn_take_along_axis {F : FTy → Type} [FloatOps F] (arg0 : FVec F S128x32768 .f32) (arg1 : IVec S128x1 32) : FVec F S128x1 .f32 :=
  let c : IVec S_ 32 := constantI S_ 32 0#32
  let v0 : IVec S128x1 32 := broadcastInDim S128x1 ![] bcast_S_S128x1 c
  let v1 : IVec S128x1 1 := cmpi .slt arg1 v0
  let c_0 : IVec S_ 32 := constantI S_ 32 32768#32
  let v2 : IVec S128x1 32 := broadcastInDim S128x1 ![] bcast_S_S128x1 c_0
  let v3 : IVec S128x1 32 := addi arg1 v2
  let v4 : IVec S128x1 32 := select v1 v3 arg1
  let v5 : IVec S128x1x1 32 := shapeCast S128x1x1 v4 shapeCasts_S128x1_S128x1x1
  let c_1 : IVec S1 32 := constantI S1 32 32767#32
  let c_2 : IVec S_ 32 := constantI S_ 32 0#32
  let v6 : IVec S128x1x1 32 := broadcastInDim S128x1x1 ![] bcast_S_S128x1x1 c_2
  let v7 : IVec S128x1x1 1 := cmpi .sge v5 v6
  let v8 : IVec S1x1x1 32 := broadcastInDim S1x1x1 ![2] bcast_S1_S1x1x1_2 c_1
  let v9 : IVec S128x1x1 32 := broadcastInDim S128x1x1 ![0, 1, 2] bcast_S1x1x1_S128x1x1_0_1_2 v8
  let v10 : IVec S128x1x1 1 := cmpi .sle v5 v9
  let v11 : IVec S128x1x1 1 := andi v7 v10
  let c_3 : IVec S_ 1 := constantI S_ 1 1#1
  let v12 : IVec S128x1 1 := (fun x v => Host.reduce IntOp.andi x v reducesTo_S128x1x1_S128x1_d2 h_S_) v11 c_3
  let v13 : FVec F S128x1 .f32 := (fun x i => Host.gather gather_S128x32768_S128x1x1_S128x1_n_1_0_0_1_2_11 x i) arg0 v5
  let cst : FVec F S_ .f32 := constant S_ .f32 0x7FC00000#32
  let v14 : FVec F S128x1 .f32 := broadcastInDim S128x1 ![] bcast_S_S128x1 cst
  let v15 : FVec F S128x1 .f32 := select v12 v13 v14
  v15

def fn_clip_2 {F : FTy → Type} [FloatOps F] (arg0 : FVec F S128x1 .f32) (arg1 : FVec F S_ .f32) : FVec F S128x1 .f32 :=
  let v0 : FVec F S_ .f32 := id arg1
  let v1 : FVec F S128x1 .f32 := broadcastInDim S128x1 ![] bcast_S_S128x1 v0
  let v2 : FVec F S128x1 .f32 := maximumf v1 arg0
  v2

def fn_part4 {F : FTy → Type} [FloatOps F] (main_v4 : IVec S128x1 1) (main_v70 : IVec S128x32768 1) (main_v72 : IVec S128x32768 1) (main_v74 : FVec F S128x1 .f32) : IVec S128x32768 1 :=
  let main_cst_19 : FVec F S_ .f32 := constant S_ .f32 0x3F800000#32
  let main_v75 : FVec F S128x1 .f32 := broadcastInDim S128x1 ![] bcast_S_S128x1 main_cst_19
  let main_v76 : IVec S128x1 1 := cmpf .oeq main_v74 main_v75
  let main_v77 : IVec S128x32768 1 := broadcastInDim S128x32768 ![0, 1] bcast_S128x1_S128x32768_0_1 main_v76
  let main_v78 : IVec S128x32768 1 := andi main_v72 main_v77
  let main_v79 : IVec S128x1 1 := noti main_v4
  let main_v80 : IVec S128x32768 1 := andi main_v70 main_v78
  let main_v81 : IVec S128x32768 1 := broadcastInDim S128x32768 ![0, 1] bcast_S128x1_S128x32768_0_1 main_v79
  let main_v82 : IVec S128x32768 1 := ori main_v81 main_v80
  main_v82

def fn_part3 {F : FTy → Type} [FloatOps F] (main_arg1 : FVec F S128x32768 .f32) (main_v4 : IVec S128x1 1) (main_v20 : FVec F S128x1 .f32) (main_v56 : FVec F S128x32768 .f32) : IVec S128x32768 1 :=
  let main_v57 : FVec F S128x32768 .f32 := mulf main_v56 main_v56
  let main_cst_13 : FVec F S_ .f32 := constant S_ .f32 0x00000000#32
  let main_v58 : FVec F S128 .f32 := (fun x v => Host.reduceAdd x v reducesTo_S128x32768_S128_d1 h_S_) main_v57 main_cst_13
  let main_v59 : FVec F S128x1 .f32 := broadcastInDim S128x1 ![0] bcast_S128_S128x1_0 main_v58
  let main_cst_14 : FVec F S_ .f32 := constant S_ .f32 0x2B8CBCCC#32
  let main_v60 : FVec F S128x1 .f32 := fn_clip_2 (F := F) main_v59 main_cst_14
  let main_v61 : FVec F S128x32768 .f32 := broadcastInDim S128x32768 ![0, 1] bcast_S128x1_S128x32768_0_1 main_v60
  let main_v62 : FVec F S128x32768 .f32 := Host.divf main_v57 main_v61
  let main_v63 : FVec F S128x32768 .f32 := subf main_arg1 main_v62
  let main_v64 : FVec F S128x32768 .f32 := Host.absf main_v63
  let main_cst_15 : FVec F S_ .f32 := constant S_ .f32 0x45800000#32
  let main_v65 : FVec F S128x1 .f32 := broadcastInDim S128x1 ![] bcast_S_S128x1 main_cst_15
  let main_v66 : FVec F S128x1 .f32 := Host.divf main_v20 main_v65
  let main_cst_16 : FVec F S_ .f32 := constant S_ .f32 0x15F79688#32
  let main_v67 : FVec F S128x1 .f32 := broadcastInDim S128x1 ![] bcast_S_S128x1 main_cst_16
  let main_v68 : FVec F S128x1 .f32 := addf main_v66 main_v67
  let main_v69 : FVec F S128x32768 .f32 := broadcastInDim S128x32768 ![0, 1] bcast_S128x1_S128x32768_0_1 main_v68
  let main_v70 : IVec S128x32768 1 := cmpf .ole main_v64 main_v69
  let main_cst_17 : FVec F S_ .f32 := constant S_ .f32 0x00000000#32
  let main_v71 : FVec F S128x32768 .f32 := broadcastInDim S128x32768 ![] bcast_S_S128x32768 main_cst_17
  let main_v72 : IVec S128x32768 1 := cmpf .oge main_arg1 main_v71
  let main_cst_18 : FVec F S_ .f32 := constant S_ .f32 0x00000000#32
  let main_v73 : FVec F S128 .f32 := (fun x v => Host.reduceAdd x v reducesTo_S128x32768_S128_d1 h_S_) main_arg1 main_cst_18
  let main_v74 : FVec F S128x1 .f32 := broadcastInDim S128x1 ![0] bcast_S128_S128x1_0 main_v73
  fn_part4 (F := F) main_v4 main_v70 main_v72 main_v74

def fn_part2 {F : FTy → Type} [FloatOps F] (main_arg0 : FVec F S128x32768 .f32) (main_arg1 : FVec F S128x32768 .f32) (main_v4 : IVec S128x1 1) (main_v20 : FVec F S128x1 .f32) (main_v23 : FVec F S128x32768 .f32) (main_v27 : FVec F S1x32768 .f32) (main_v30 : FVec F S128x32768 .f32) (main_v38 : FVec F S128x32768 .f32) : IVec S128x32768 1 :=
  let main_cst_7 : FVec F S_ .f32 := constant S_ .f32 0x3F800000#32
  let main_v39 : FVec F S128x32768 .f32 := broadcastInDim S128x32768 ![] bcast_S_S128x32768 main_cst_7
  let main_v40 : FVec F S128x32768 .f32 := subf main_v39 main_v38
  let main_v41 : FVec F S128x32768 .f32 := broadcastInDim S128x32768 ![0, 1] bcast_S1x32768_S128x32768_0_1 main_v27
  let main_v42 : FVec F S128x32768 .f32 := Host.divf main_v40 main_v41
  let main_cst_8 : FVec F S_ .f32 := constant S_ .f32 0x00000000#32
  let main_v43 : FVec F S128x32768 .f32 := fn_clip (F := F) main_v42 main_cst_8
  let main_v44 : FVec F S128x32768 .f32 := Host.sqrt main_v43
  let main_v45 : FVec F S128x32768 .f32 := subf main_v30 main_v44
  let main_v46 : IVec S128x32768 1 := cmpf .oge main_v23 main_v45
  let main_v47 : IVec S128x32768 32 := (extui 32 · natLt_1_32) main_v46
  let main_c_9 : IVec S_ 32 := constantI S_ 32 0#32
  let main_v48 : IVec S128 32 := (fun x v => Host.reduce IntOp.addi x v reducesTo_S128x32768_S128_d1 h_S_) main_v47 main_c_9
  let main_v49 : IVec S128x1 32 := broadcastInDim S128x1 ![0] bcast_S128_S128x1_0 main_v48
  let main_c_10 : IVec S_ 32 := constantI S_ 32 1#32
  let main_v50 : IVec S128x1 32 := fn_clip_1 (F := F) main_v49 main_c_10
  let main_c_11 : IVec S_ 32 := constantI S_ 32 1#32
  let main_v51 : IVec S128x1 32 := broadcastInDim S128x1 ![] bcast_S_S128x1 main_c_11
  let main_v52 : IVec S128x1 32 := subi main_v50 main_v51
  let main_v53 : FVec F S128x1 .f32 := fn_take_along_axis (F := F) main_v45 main_v52
  let main_v54 : FVec F S128x32768 .f32 := broadcastInDim S128x32768 ![0, 1] bcast_S128x1_S128x32768_0_1 main_v53
  let main_v55 : FVec F S128x32768 .f32 := subf main_arg0 main_v54
  let main_cst_12 : FVec F S_ .f32 := constant S_ .f32 0x00000000#32
  let main_v56 : FVec F S128x32768 .f32 := fn_clip (F := F) main_v55 main_cst_12
  fn_part3 (F := F) main_arg1 main_v4 main_v20 main_v56

def fn_part1 {F : FTy → Type} [FloatOps F] (main_arg0 : FVec F S128x32768 .f32) (main_arg1 : FVec F S128x32768 .f32) (main_v4 : IVec S128x1 1) (main_v12 : FVec F S128x32768 .f32) (main_v15 : FVec F S128x1 .f32) (main_v16 : FVec F S128x1 .f32) : IVec S128x32768 1 :=
  let main_v17 : FVec F S128x1 .f32 := subf main_v15 main_v16
  let main_cst_5 : FVec F S_ .f32 := constant S_ .f32 0x00000000#32
  let main_v18 : FVec F S128 .f32 := (fun x v => Host.reduceAdd x v reducesTo_S128x32768_S128_d1 h_S_) main_v12 main_cst_5
  let main_v19 : FVec F S128x1 .f32 := broadcastInDim S128x1 ![0] bcast_S128_S128x1_0 main_v18
  let main_v20 : FVec F S128x1 .f32 := mulf main_v17 main_v19
  let main_v21 : FVec F S128x32768 .f32 := Host.negf main_arg0
  let main_v22 : FVec F S128x32768 .f32 := fn_sort (F := F) main_v21
  let main_v23 : FVec F S128x32768 .f32 := Host.negf main_v22
  let main_v24 : FVec F S32768 .f32 := sitofp .f32 (iotaInDim S32768 32 0)
  let main_cst_6 : FVec F S_ .f32 := constant S_ .f32 0x3F800000#32
  let main_v25 : FVec F S32768 .f32 := broadcastInDim S32768 ![] bcast_S_S32768 main_cst_6
  let main_v26 : FVec F S32768 .f32 := addf main_v25 main_v24
  let main_v27 : FVec F S1x32768 .f32 := shapeCast S1x32768 main_v26 shapeCasts_S32768_S1x32768
  let main_v28 : FVec F S128x32768 .f32 := fn_cumsum (F := F) main_v23
  let main_v29 : FVec F S128x32768 .f32 := broadcastInDim S128x32768 ![0, 1] bcast_S1x32768_S128x32768_0_1 main_v27
  let main_v30 : FVec F S128x32768 .f32 := Host.divf main_v28 main_v29
  let main_v31 : FVec F S128x32768 .f32 := mulf main_v23 main_v23
  let main_v32 : FVec F S128x32768 .f32 := fn_cumsum (F := F) main_v31
  let main_v33 : FVec F S128x32768 .f32 := broadcastInDim S128x32768 ![0, 1] bcast_S1x32768_S128x32768_0_1 main_v27
  let main_v34 : FVec F S128x32768 .f32 := Host.divf main_v32 main_v33
  let main_v35 : FVec F S128x32768 .f32 := mulf main_v30 main_v30
  let main_v36 : FVec F S128x32768 .f32 := subf main_v34 main_v35
  let main_v37 : FVec F S128x32768 .f32 := broadcastInDim S128x32768 ![0, 1] bcast_S1x32768_S128x32768_0_1 main_v27
  let main_v38 : FVec F S128x32768 .f32 := mulf main_v37 main_v36
  fn_part2 (F := F) main_arg0 main_arg1 main_v4 main_v20 main_v23 main_v27 main_v30 main_v38

def fn {F : FTy → Type} [FloatOps F] (main_arg0 : FVec F S128x32768 .f32) (main_arg1 : FVec F S128x32768 .f32) : IVec S128x32768 1 :=
  let main_v0 : FVec F S128x32768 .f32 := Host.absf main_arg0
  let main_cst : FVec F S_ .f32 := constant S_ .f32 0x7F800000#32
  let main_v1 : FVec F S128x32768 .f32 := broadcastInDim S128x32768 ![] bcast_S_S128x32768 main_cst
  let main_v2 : IVec S128x32768 1 := cmpf .olt main_v0 main_v1
  let main_c : IVec S_ 1 := constantI S_ 1 1#1
  let main_v3 : IVec S128 1 := (fun x v => Host.reduce IntOp.andi x v reducesTo_S128x32768_S128_d1 h_S_) main_v2 main_c
  let main_v4 : IVec S128x1 1 := broadcastInDim S128x1 ![0] bcast_S128_S128x1_0 main_v3
  let main_cst_0 : FVec F S_ .f32 := constant S_ .f32 0xFF800000#32
  let main_v5 : FVec F S128 .f32 := (fun x v => Host.reduce FloatOps.maximumf x v reducesTo_S128x32768_S128_d1 h_S_) main_arg0 main_cst_0
  let main_v6 : FVec F S128x1 .f32 := broadcastInDim S128x1 ![0] bcast_S128_S128x1_0 main_v5
  let main_cst_1 : FVec F S_ .f32 := constant S_ .f32 0x3F800000#32
  let main_v7 : FVec F S128x1 .f32 := broadcastInDim S128x1 ![] bcast_S_S128x1 main_cst_1
  let main_v8 : FVec F S128x1 .f32 := subf main_v6 main_v7
  let main_v9 : FVec F S128x32768 .f32 := broadcastInDim S128x32768 ![0, 1] bcast_S128x1_S128x32768_0_1 main_v8
  let main_v10 : FVec F S128x32768 .f32 := subf main_arg0 main_v9
  let main_cst_2 : FVec F S_ .f32 := constant S_ .f32 0x00000000#32
  let main_v11 : FVec F S128x32768 .f32 := broadcastInDim S128x32768 ![] bcast_S_S128x32768 main_cst_2
  let main_v12 : FVec F S128x32768 .f32 := maximumf main_v10 main_v11
  let main_v13 : FVec F S128x32768 .f32 := mulf main_v12 main_v12
  let main_cst_3 : FVec F S_ .f32 := constant S_ .f32 0x00000000#32
  let main_v14 : FVec F S128 .f32 := (fun x v => Host.reduceAdd x v reducesTo_S128x32768_S128_d1 h_S_) main_v13 main_cst_3
  let main_v15 : FVec F S128x1 .f32 := broadcastInDim S128x1 ![0] bcast_S128_S128x1_0 main_v14
  let main_cst_4 : FVec F S_ .f32 := constant S_ .f32 0x3F800000#32
  let main_v16 : FVec F S128x1 .f32 := broadcastInDim S128x1 ![] bcast_S_S128x1 main_cst_4
  fn_part1 (F := F) main_arg0 main_arg1 main_v4 main_v12 main_v15 main_v16
-- ==== Kernel.lean ====
abbrev S128x32768 : Shape := ⟨2, ![128, 32768]⟩
abbrev S32x32768 : Shape := ⟨2, ![32, 32768]⟩
abbrev S32x512 : Shape := ⟨2, ![32, 512]⟩
abbrev S32 : Shape := ⟨1, ![32]⟩
abbrev S32x1 : Shape := ⟨2, ![32, 1]⟩
abbrev S32x128 : Shape := ⟨2, ![32, 128]⟩
abbrev S32x256 : Shape := ⟨2, ![32, 256]⟩

abbrev nBuf : Space → Nat
  | .hbm => 2
  | .vmem => 4
  | .smem => 0
  | _ => 0

abbrev bufTy : (tb : Table) → Fin (tcTables nBuf tb) → BufTy
  | .hbm, ⟨0, _⟩ => ⟨S128x32768, .f32⟩
  | .hbm, ⟨1, _⟩ => ⟨S128x32768, .f32⟩
  | .local _ .vmem, ⟨0, _⟩ => ⟨S32x32768, .f32⟩
  | .local _ .vmem, ⟨1, _⟩ => ⟨S32x32768, .f32⟩
  | .local _ .vmem, ⟨2, _⟩ => ⟨S32x32768, .f32⟩
  | .local _ .vmem, ⟨3, _⟩ => ⟨S32x32768, .f32⟩
  | _, _ => ⟨S128x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c6_i32 : BitVec 32 := 6#32
  let v1364 : BitVec 32 := Scalar.addi c0_i32 c6_i32
  let c1_i32 : BitVec 32 := 1#32
  ⟨c0_i32, v1364, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S128x32768 : Shape := ⟨2, ![128, 32768]⟩
abbrev S32768 : Shape := ⟨1, ![32768]⟩
abbrev S_ : Shape := ⟨0, ![]⟩
abbrev S1x32768 : Shape := ⟨2, ![1, 32768]⟩
abbrev S128 : Shape := ⟨1, ![128]⟩
abbrev S128x1 : Shape := ⟨2, ![128, 1]⟩
abbrev S128x1x1 : Shape := ⟨3, ![128, 1, 1]⟩
abbrev S1 : Shape := ⟨1, ![1]⟩
abbrev S1x1x1 : Shape := ⟨3, ![1, 1, 1]⟩

abbrev nBuf : Space → Nat
  | .hbm => 85
  | .vmem => 0
  | .smem => 0
  | _ => 0

abbrev bufTy : (tb : Table) → Fin (tcTables nBuf tb) → BufTy
  | .hbm, ⟨0, _⟩ => ⟨S128x32768, .f32⟩
  | .hbm, ⟨1, _⟩ => ⟨S128x32768, .f32⟩
  | .hbm, ⟨2, _⟩ => ⟨S128x32768, .f32⟩
  | .hbm, ⟨3, _⟩ => ⟨S128x32768, .f32⟩
  | .hbm, ⟨4, _⟩ => ⟨S32768, .f32⟩
  | .hbm, ⟨5, _⟩ => ⟨S_, .f32⟩
  | .hbm, ⟨6, _⟩ => ⟨S32768, .f32⟩
  | .hbm, ⟨7, _⟩ => ⟨S32768, .f32⟩
  | .hbm, ⟨8, _⟩ => ⟨S1x32768, .f32⟩
  | .hbm, ⟨9, _⟩ => ⟨S_, .f32⟩
  | .hbm, ⟨10, _⟩ => ⟨S_, .f32⟩
  | .hbm, ⟨11, _⟩ => ⟨S128x32768, .f32⟩
  | .hbm, ⟨12, _⟩ => ⟨S128x32768, .f32⟩
  | .hbm, ⟨13, _⟩ => ⟨S128x32768, .f32⟩
  | .hbm, ⟨14, _⟩ => ⟨S128x32768, .f32⟩
  | .hbm, ⟨15, _⟩ => ⟨S_, .f32⟩
  | .hbm, ⟨16, _⟩ => ⟨S_, .f32⟩
  | .hbm, ⟨17, _⟩ => ⟨S128x32768, .f32⟩
  | .hbm, ⟨18, _⟩ => ⟨S128x32768, .f32⟩
  | .hbm, ⟨19, _⟩ => ⟨S128x32768, .f32⟩
  | .hbm, ⟨20, _⟩ => ⟨S128x32768, .f32⟩
  | .hbm, ⟨21, _⟩ => ⟨S128x32768, .f32⟩
  | .hbm, ⟨22, _⟩ => ⟨S128x32768, .f32⟩
  | .hbm, ⟨23, _⟩ => ⟨S128x32768, .f32⟩
  | .hbm, ⟨24, _⟩ => ⟨S_, .f32⟩
  | .hbm, ⟨25, _⟩ => ⟨S128x32768, .f32⟩
  | .hbm, ⟨26, _⟩ => ⟨S128x32768, .f32⟩
  | .hbm, ⟨27, _⟩ => ⟨S128x32768, .f32⟩
  | .hbm, ⟨28, _⟩ => ⟨S128x32768, .f32⟩
  | .hbm, ⟨29, _⟩ => ⟨S_, .f32⟩
  | .hbm, ⟨30, _⟩ => ⟨S_, .f32⟩
  | .hbm, ⟨31, _⟩ => ⟨S128x32768, .f32⟩
  | .hbm, ⟨32, _⟩ => ⟨S128x32768, .f32⟩
  | .hbm, ⟨33, _⟩ => ⟨S128x32768, .f32⟩
  | .hbm, ⟨34, _⟩ => ⟨S128x32768, .f32⟩
  | .hbm, ⟨35, _⟩ => ⟨S128x32768, .i1⟩
  | .hbm, ⟨36, _⟩ => ⟨S128x32768, .i32⟩
  | .hbm, ⟨37, _⟩ => ⟨S_, .i32⟩
  | .hbm, ⟨38, _⟩ => ⟨S128, .i32⟩
  | .hbm, ⟨39, _⟩ => ⟨S128x1, .i32⟩
  | .hbm, ⟨40, _⟩ => ⟨S_, .i32⟩
  | .hbm, ⟨41, _⟩ => ⟨S_, .i32⟩
  | .hbm, ⟨42, _⟩ => ⟨S128x1, .i32⟩
  | .hbm, ⟨43, _⟩ => ⟨S128x1, .i32⟩
  | .hbm, ⟨44, _⟩ => ⟨S_, .i32⟩
  | .hbm, ⟨45, _⟩ => ⟨S128x1, .i32⟩
  | .hbm, ⟨46, _⟩ => ⟨S128x1, .i32⟩
  | .hbm, ⟨47, _⟩ => ⟨S_, .i32⟩
  | .hbm, ⟨48, _⟩ => ⟨S128x1, .i32⟩
  | .hbm, ⟨49, _⟩ => ⟨S128x1, .i1⟩
  | .hbm, ⟨50, _⟩ => ⟨S_, .i32⟩
  | .hbm, ⟨51, _⟩ => ⟨S128x1, .i32⟩
  | .hbm, ⟨52, _⟩ => ⟨S128x1, .i32⟩
  | .hbm, ⟨53, _⟩ => ⟨S128x1, .i32⟩
  | .hbm, ⟨54, _⟩ => ⟨S128x1x1, .i32⟩
  | .hbm, ⟨55, _⟩ => ⟨S1, .i32⟩
  | .hbm, ⟨56, _⟩ => ⟨S_, .i32⟩
  | .hbm, ⟨57, _⟩ => ⟨S128x1x1, .i32⟩
  | .hbm, ⟨58, _⟩ => ⟨S128x1x1, .i1⟩
  | .hbm, ⟨59, _⟩ => ⟨S1x1x1, .i32⟩
  | .hbm, ⟨60, _⟩ => ⟨S128x1x1, .i32⟩
  | .hbm, ⟨61, _⟩ => ⟨S128x1x1, .i1⟩
  | .hbm, ⟨62, _⟩ => ⟨S128x1x1, .i1⟩
  | .hbm, ⟨63, _⟩ => ⟨S_, .i1⟩
  | .hbm, ⟨64, _⟩ => ⟨S128x1, .i1⟩
  | .hbm, ⟨65, _⟩ => ⟨S128x1, .f32⟩
  | .hbm, ⟨66, _⟩ => ⟨S_, .f32⟩
  | .hbm, ⟨67, _⟩ => ⟨S128x1, .f32⟩
  | .hbm, ⟨68, _⟩ => ⟨S128x1, .f32⟩
  | .hbm, ⟨69, _⟩ => ⟨S128x32768, .f32⟩
  | .hbm, ⟨70, _⟩ => ⟨S128x32768, .f32⟩
  | .hbm, ⟨71, _⟩ => ⟨S_, .f32⟩
  | .hbm, ⟨72, _⟩ => ⟨S_, .f32⟩
  | .hbm, ⟨73, _⟩ => ⟨S128x32768, .f32⟩
  | .hbm, ⟨74, _⟩ => ⟨S128x32768, .f32⟩
  | .hbm, ⟨75, _⟩ => ⟨S128x32768, .f32⟩
  | .hbm, ⟨76, _⟩ => ⟨S_, .f32⟩
  | .hbm, ⟨77, _⟩ => ⟨S128, .f32⟩
  | .hbm, ⟨78, _⟩ => ⟨S128x1, .f32⟩
  | .hbm, ⟨79, _⟩ => ⟨S_, .f32⟩
  | .hbm, ⟨80, _⟩ => ⟨S_, .f32⟩
  | .hbm, ⟨81, _⟩ => ⟨S128x1, .f32⟩
  | .hbm, ⟨82, _⟩ => ⟨S128x1, .f32⟩
  | .hbm, ⟨83, _⟩ => ⟨S128x32768, .f32⟩
  | .hbm, ⟨84, _⟩ => ⟨S128x32768, .f32⟩
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call1_call0_cst : Ref sig .tc := ⟨.hbm, 9, rfl⟩
abbrev main_call1_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call2_call0_cst : Ref sig .tc := ⟨.hbm, 15, rfl⟩
abbrev main_call2_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_call3_v0 : Ref sig .tc := ⟨.hbm, 30, rfl⟩
abbrev main_call3_v1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c : Ref sig .tc := ⟨.hbm, 37, rfl⟩
abbrev main_v27 : Ref sig .tc := ⟨.hbm, 38, rfl⟩
abbrev main_v28 : Ref sig .tc := ⟨.hbm, 39, rfl⟩
abbrev main_c_2 : Ref sig .tc := ⟨.hbm, 40, rfl⟩
abbrev main_call4_v0 : Ref sig .tc := ⟨.hbm, 41, rfl⟩
abbrev main_call4_v1 : Ref sig .tc := ⟨.hbm, 42, rfl⟩
abbrev main_v29 : Ref sig .tc := ⟨.hbm, 43, rfl⟩
abbrev main_c_3 : Ref sig .tc := ⟨.hbm, 44, rfl⟩
abbrev main_v30 : Ref sig .tc := ⟨.hbm, 45, rfl⟩
abbrev main_v31 : Ref sig .tc := ⟨.hbm, 46, rfl⟩
abbrev main_call5_c : Ref sig .tc := ⟨.hbm, 47, rfl⟩
abbrev main_call5_v0 : Ref sig .tc := ⟨.hbm, 48, rfl⟩
abbrev main_call5_v1 : Ref sig .tc := ⟨.hbm, 49, rfl⟩
abbrev main_call5_c_0 : Ref sig .tc := ⟨.hbm, 50, rfl⟩
abbrev main_call5_v2 : Ref sig .tc := ⟨.hbm, 51, rfl⟩
abbrev main_call5_v3 : Ref sig .tc := ⟨.hbm, 52, rfl⟩
abbrev main_call5_v4 : Ref sig .tc := ⟨.hbm, 53, rfl⟩
abbrev main_call5_v5 : Ref sig .tc := ⟨.hbm, 54, rfl⟩
abbrev main_call5_c_1 : Ref sig .tc := ⟨.hbm, 55, rfl⟩
abbrev main_call5_c_2 : Ref sig .tc := ⟨.hbm, 56, rfl⟩
abbrev main_call5_v6 : Ref sig .tc := ⟨.hbm, 57, rfl⟩
abbrev main_call5_v7 : Ref sig .tc := ⟨.hbm, 58, rfl⟩
abbrev main_call5_v8 : Ref sig .tc := ⟨.hbm, 59, rfl⟩
abbrev main_call5_v9 : Ref sig .tc := ⟨.hbm, 60, rfl⟩
abbrev main_call5_v10 : Ref sig .tc := ⟨.hbm, 61, rfl⟩
abbrev main_call5_v11 : Ref sig .tc := ⟨.hbm, 62, rfl⟩
abbrev main_call5_c_3 : Ref sig .tc := ⟨.hbm, 63, rfl⟩
abbrev main_call5_v12 : Ref sig .tc := ⟨.hbm, 64, rfl⟩
abbrev main_call5_v13 : Ref sig .tc := ⟨.hbm, 65, rfl⟩
abbrev main_call5_cst : Ref sig .tc := ⟨.hbm, 66, rfl⟩
abbrev main_call5_v14 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_cst_4 : Ref sig .tc := ⟨.hbm, 71, rfl⟩
abbrev main_call6_v0 : Ref sig .tc := ⟨.hbm, 72, rfl⟩
abbrev main_call6_v1 : Ref sig .tc := ⟨.hbm, 73, rfl⟩
abbrev main_v35 : Ref sig .tc := ⟨.hbm, 74, rfl⟩
abbrev main_v36 : Ref sig .tc := ⟨.hbm, 75, rfl⟩
abbrev main_cst_5 : Ref sig .tc := ⟨.hbm, 76, rfl⟩
abbrev main_v37 : Ref sig .tc := ⟨.hbm, 77, rfl⟩
abbrev main_v38 : Ref sig .tc := ⟨.hbm, 78, rfl⟩
abbrev main_cst_6 : Ref sig .tc := ⟨.hbm, 79, rfl⟩
abbrev main_call7_v0 : Ref sig .tc := ⟨.hbm, 80, rfl⟩
abbrev main_call7_v1 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩

abbrev nD : Nat := 1
abbrev τ : Topo := Topo.v7x

variable {F : FTy → Type} [FloatOps F]
-- ==== SecantIdeal.lean ====
abbrev S128x32768 : Shape := ⟨2, ![128, 32768]⟩
abbrev S_ : Shape := ⟨0, ![]⟩
abbrev S128 : Shape := ⟨1, ![128]⟩
abbrev S128x1 : Shape := ⟨2, ![128, 1]⟩

abbrev nBuf : Space → Nat
  | .hbm => 301
  | .vmem => 0
  | .smem => 0
  | _ => 0

abbrev hbmTy0_0 (i : Nat) : BufTy := match i % 128 with
  | 0 => ⟨S128x32768, .f32⟩
  | 1 => ⟨S_, .f32⟩
  | 2 => ⟨S128, .f32⟩
  | 3 => ⟨S128x1, .f32⟩
  | 4 => ⟨S_, .f32⟩
  | 5 => ⟨S128x1, .f32⟩
  | 6 => ⟨S128x1, .f32⟩
  | 7 => ⟨S128x32768, .f32⟩
  | 8 => ⟨S128x32768, .f32⟩
  | 9 => ⟨S_, .f32⟩
  | 10 => ⟨S128x32768, .f32⟩
  | 11 => ⟨S128x32768, .f32⟩
  | 12 => ⟨S128x32768, .f32⟩
  | 13 => ⟨S_, .f32⟩
  | 14 => ⟨S128, .f32⟩
  | 15 => ⟨S128x1, .f32⟩
  | 16 => ⟨S128x32768, .f32⟩
  | 17 => ⟨S128x32768, .f32⟩
  | 18 => ⟨S_, .f32⟩
  | 19 => ⟨S128x32768, .f32⟩
  | 20 => ⟨S128x32768, .f32⟩
  | 21 => ⟨S_, .f32⟩
  | 22 => ⟨S128, .f32⟩
  | 23 => ⟨S128x1, .f32⟩
  | 24 => ⟨S_, .f32⟩
  | 25 => ⟨S128x1, .f32⟩
  | 26 => ⟨S128x1, .f32⟩
  | 27 => ⟨S_, .f32⟩
  | 28 => ⟨S128x1, .f32⟩
  | 29 => ⟨S128x1, .f32⟩
  | 30 => ⟨S_, .f32⟩
  | 31 => ⟨S128x1, .f32⟩
  | 32 => ⟨S128x1, .f32⟩
  | 33 => ⟨S128x1, .f32⟩
  | 34 => ⟨S128x1, .f32⟩
  | 35 => ⟨S128x32768, .f32⟩
  | 36 => ⟨S128x32768, .f32⟩
  | 37 => ⟨S_, .f32⟩
  | 38 => ⟨S128x32768, .f32⟩
  | 39 => ⟨S128x32768, .f32⟩
  | 40 => ⟨S128x32768, .f32⟩
  | 41 => ⟨S_, .f32⟩
  | 42 => ⟨S128, .f32⟩
  | 43 => ⟨S128x1, .f32⟩
  | 44 => ⟨S_, .f32⟩
  | 45 => ⟨S128x1, .f32⟩
  | 46 => ⟨S128x1, .i1⟩
  | 47 => ⟨S128x1, .f32⟩
  | 48 => ⟨S128x1, .f32⟩
  | 49 => ⟨S128x1, .f32⟩
  | 50 => ⟨S_, .f32⟩
  | 51 => ⟨S128x1, .f32⟩
  | 52 => ⟨S128x1, .f32⟩
  | 53 => ⟨S128x1, .f32⟩
  | 54 => ⟨S128x1, .f32⟩
  | 55 => ⟨S128x1, .f32⟩
  | 56 => ⟨S_, .f32⟩
  | 57 => ⟨S128x1, .f32⟩
  | 58 => ⟨S128x1, .i1⟩
  | 59 => ⟨S_, .f32⟩
  | 60 => ⟨S_, .f32⟩
  | 61 => ⟨S128x1, .f32⟩
  | 62 => ⟨S128x1, .f32⟩
  | 63 => ⟨S128x1, .f32⟩
  | 64 => ⟨S_, .f32⟩
  | 65 => ⟨S128x1, .f32⟩
  | 66 => ⟨S128x1, .f32⟩
  | 67 => ⟨S_, .f32⟩
  | 68 => ⟨S128x1, .f32⟩
  | 69 => ⟨S128x1, .f32⟩
  | 70 => ⟨S_, .f32⟩
  | 71 => ⟨S128x1, .f32⟩
  | 72 => ⟨S128x1, .f32⟩
  | 73 => ⟨S128x1, .f32⟩
  | 74 => ⟨S128x1, .f32⟩
  | 75 => ⟨S128x1, .f32⟩
  | 76 => ⟨S128x32768, .f32⟩
  | 77 => ⟨S128x32768, .f32⟩
  | 78 => ⟨S_, .f32⟩
  | 79 => ⟨S128x32768, .f32⟩
  | 80 => ⟨S128x32768, .f32⟩
  | 81 => ⟨S128x32768, .f32⟩
  | 82 => ⟨S_, .f32⟩
  | 83 => ⟨S128, .f32⟩
  | 84 => ⟨S128x1, .f32⟩
  | 85 => ⟨S_, .f32⟩
  | 86 => ⟨S128x1, .f32⟩
  | 87 => ⟨S128x1, .i1⟩
  | 88 => ⟨S128x1, .f32⟩
  | 89 => ⟨S128x1, .f32⟩
  | 90 => ⟨S128x1, .f32⟩
  | 91 => ⟨S_, .f32⟩
  | 92 => ⟨S128x1, .f32⟩
  | 93 => ⟨S128x1, .f32⟩
  | 94 => ⟨S128x1, .f32⟩
  | 95 => ⟨S128x1, .f32⟩
  | 96 => ⟨S128x1, .f32⟩
  | 97 => ⟨S_, .f32⟩
  | 98 => ⟨S128x1, .f32⟩
  | 99 => ⟨S128x1, .i1⟩
  | 100 => ⟨S_, .f32⟩
  | 101 => ⟨S_, .f32⟩
  | 102 => ⟨S128x1, .f32⟩
  | 103 => ⟨S128x1, .f32⟩
  | 104 => ⟨S128x1, .f32⟩
  | 105 => ⟨S_, .f32⟩
  | 106 => ⟨S128x1, .f32⟩
  | 107 => ⟨S128x1, .f32⟩
  | 108 => ⟨S_, .f32⟩
  | 109 => ⟨S128x1, .f32⟩
  | 110 => ⟨S128x1, .f32⟩
  | 111 => ⟨S_, .f32⟩
  | 112 => ⟨S128x1, .f32⟩
  | 113 => ⟨S128x1, .f32⟩
  | 114 => ⟨S128x1, .f32⟩
  | 115 => ⟨S128x1, .f32⟩
  | 116 => ⟨S128x1, .f32⟩
  | 117 => ⟨S128x32768, .f32⟩
  | 118 => ⟨S128x32768, .f32⟩
  | 119 => ⟨S_, .f32⟩
  | 120 => ⟨S128x32768, .f32⟩
  | 121 => ⟨S128x32768, .f32⟩
  | 122 => ⟨S128x32768, .f32⟩
  | 123 => ⟨S_, .f32⟩
  | 124 => ⟨S128, .f32⟩
  | 125 => ⟨S128x1, .f32⟩
  | 126 => ⟨S_, .f32⟩
  | 127 => ⟨S128x1, .f32⟩
  | _ => ⟨S128x32768, .f32⟩

abbrev hbmTy0_1 (i : Nat) : BufTy := match i % 128 with
  | 0 => ⟨S128x1, .i1⟩
  | 1 => ⟨S128x1, .f32⟩
  | 2 => ⟨S128x1, .f32⟩
  | 3 => ⟨S128x1, .f32⟩
  | 4 => ⟨S_, .f32⟩
  | 5 => ⟨S128x1, .f32⟩
  | 6 => ⟨S128x1, .f32⟩
  | 7 => ⟨S128x1, .f32⟩
  | 8 => ⟨S128x1, .f32⟩
  | 9 => ⟨S128x1, .f32⟩
  | 10 => ⟨S_, .f32⟩
  | 11 => ⟨S128x1, .f32⟩
  | 12 => ⟨S128x1, .i1⟩
  | 13 => ⟨S_, .f32⟩
  | 14 => ⟨S_, .f32⟩
  | 15 => ⟨S128x1, .f32⟩
  | 16 => ⟨S128x1, .f32⟩
  | 17 => ⟨S128x1, .f32⟩
  | 18 => ⟨S_, .f32⟩
  | 19 => ⟨S128x1, .f32⟩
  | 20 => ⟨S128x1, .f32⟩
  | 21 => ⟨S_, .f32⟩
  | 22 => ⟨S128x1, .f32⟩
  | 23 => ⟨S128x1, .f32⟩
  | 24 => ⟨S_, .f32⟩
  | 25 => ⟨S128x1, .f32⟩
  | 26 => ⟨S128x1, .f32⟩
  | 27 => ⟨S128x1, .f32⟩
  | 28 => ⟨S128x1, .f32⟩
  | 29 => ⟨S128x1, .f32⟩
  | 30 => ⟨S128x32768, .f32⟩
  | 31 => ⟨S128x32768, .f32⟩
  | 32 => ⟨S_, .f32⟩
  | 33 => ⟨S128x32768, .f32⟩
  | 34 => ⟨S128x32768, .f32⟩
  | 35 => ⟨S128x32768, .f32⟩
  | 36 => ⟨S_, .f32⟩
  | 37 => ⟨S128, .f32⟩
  | 38 => ⟨S128x1, .f32⟩
  | 39 => ⟨S_, .f32⟩
  | 40 => ⟨S128x1, .f32⟩
  | 41 => ⟨S128x1, .i1⟩
  | 42 => ⟨S128x1, .f32⟩
  | 43 => ⟨S128x1, .f32⟩
  | 44 => ⟨S128x1, .f32⟩
  | 45 => ⟨S_, .f32⟩
  | 46 => ⟨S128x1, .f32⟩
  | 47 => ⟨S128x1, .f32⟩
  | 48 => ⟨S128x1, .f32⟩
  | 49 => ⟨S128x1, .f32⟩
  | 50 => ⟨S128x1, .f32⟩
  | 51 => ⟨S_, .f32⟩
  | 52 => ⟨S128x1, .f32⟩
  | 53 => ⟨S128x1, .i1⟩
  | 54 => ⟨S_, .f32⟩
  | 55 => ⟨S_, .f32⟩
  | 56 => ⟨S128x1, .f32⟩
  | 57 => ⟨S128x1, .f32⟩
  | 58 => ⟨S128x1, .f32⟩
  | 59 => ⟨S_, .f32⟩
  | 60 => ⟨S128x1, .f32⟩
  | 61 => ⟨S128x1, .f32⟩
  | 62 => ⟨S_, .f32⟩
  | 63 => ⟨S128x1, .f32⟩
  | 64 => ⟨S128x1, .f32⟩
  | 65 => ⟨S_, .f32⟩
  | 66 => ⟨S128x1, .f32⟩
  | 67 => ⟨S128x1, .f32⟩
  | 68 => ⟨S128x1, .f32⟩
  | 69 => ⟨S128x1, .f32⟩
  | 70 => ⟨S128x1, .f32⟩
  | 71 => ⟨S128x32768, .f32⟩
  | 72 => ⟨S128x32768, .f32⟩
  | 73 => ⟨S_, .f32⟩
  | 74 => ⟨S128x32768, .f32⟩
  | 75 => ⟨S128x32768, .f32⟩
  | 76 => ⟨S128x32768, .f32⟩
  | 77 => ⟨S_, .f32⟩
  | 78 => ⟨S128, .f32⟩
  | 79 => ⟨S128x1, .f32⟩
  | 80 => ⟨S_, .f32⟩
  | 81 => ⟨S128x1, .f32⟩
  | 82 => ⟨S128x1, .i1⟩
  | 83 => ⟨S128x1, .f32⟩
  | 84 => ⟨S128x1, .f32⟩
  | 85 => ⟨S128x1, .f32⟩
  | 86 => ⟨S_, .f32⟩
  | 87 => ⟨S128x1, .f32⟩
  | 88 => ⟨S128x1, .f32⟩
  | 89 => ⟨S128x1, .f32⟩
  | 90 => ⟨S128x1, .f32⟩
  | 91 => ⟨S128x1, .f32⟩
  | 92 => ⟨S_, .f32⟩
  | 93 => ⟨S128x1, .f32⟩
  | 94 => ⟨S128x1, .i1⟩
  | 95 => ⟨S_, .f32⟩
  | 96 => ⟨S_, .f32⟩
  | 97 => ⟨S128x1, .f32⟩
  | 98 => ⟨S128x1, .f32⟩
  | 99 => ⟨S128x1, .f32⟩
  | 100 => ⟨S_, .f32⟩
  | 101 => ⟨S128x1, .f32⟩
  | 102 => ⟨S128x1, .f32⟩
  | 103 => ⟨S_, .f32⟩
  | 104 => ⟨S128x1, .f32⟩
  | 105 => ⟨S128x1, .f32⟩
  | 106 => ⟨S_, .f32⟩
  | 107 => ⟨S128x1, .f32⟩
  | 108 => ⟨S128x1, .f32⟩
  | 109 => ⟨S128x1, .f32⟩
  | 110 => ⟨S128x1, .f32⟩
  | 111 => ⟨S128x1, .f32⟩
  | 112 => ⟨S128x32768, .f32⟩
  | 113 => ⟨S128x32768, .f32⟩
  | 114 => ⟨S_, .f32⟩
  | 115 => ⟨S128x32768, .f32⟩
  | 116 => ⟨S128x32768, .f32⟩
  | 117 => ⟨S128x32768, .f32⟩
  | 118 => ⟨S_, .f32⟩
  | 119 => ⟨S128, .f32⟩
  | 120 => ⟨S128x1, .f32⟩
  | 121 => ⟨S_, .f32⟩
  | 122 => ⟨S128x1, .f32⟩
  | 123 => ⟨S128x1, .i1⟩
  | 124 => ⟨S128x1, .f32⟩
  | 125 => ⟨S128x1, .f32⟩
  | 126 => ⟨S128x1, .f32⟩
  | 127 => ⟨S_, .f32⟩
  | _ => ⟨S128x32768, .f32⟩

abbrev hbmTy0_2 (i : Nat) : BufTy := match i % 128 with
  | 0 => ⟨S128x1, .f32⟩
  | 1 => ⟨S128x1, .f32⟩
  | 2 => ⟨S128x1, .f32⟩
  | 3 => ⟨S128x1, .f32⟩
  | 4 => ⟨S128x1, .f32⟩
  | 5 => ⟨S_, .f32⟩
  | 6 => ⟨S128x1, .f32⟩
  | 7 => ⟨S128x1, .i1⟩
  | 8 => ⟨S_, .f32⟩
  | 9 => ⟨S_, .f32⟩
  | 10 => ⟨S128x1, .f32⟩
  | 11 => ⟨S128x1, .f32⟩
  | 12 => ⟨S128x1, .f32⟩
  | 13 => ⟨S_, .f32⟩
  | 14 => ⟨S128x1, .f32⟩
  | 15 => ⟨S128x1, .f32⟩
  | 16 => ⟨S_, .f32⟩
  | 17 => ⟨S128x1, .f32⟩
  | 18 => ⟨S128x1, .f32⟩
  | 19 => ⟨S_, .f32⟩
  | 20 => ⟨S128x1, .f32⟩
  | 21 => ⟨S128x1, .f32⟩
  | 22 => ⟨S128x1, .f32⟩
  | 23 => ⟨S128x1, .f32⟩
  | 24 => ⟨S128x1, .f32⟩
  | 25 => ⟨S128x32768, .f32⟩
  | 26 => ⟨S128x32768, .f32⟩
  | 27 => ⟨S_, .f32⟩
  | 28 => ⟨S128x32768, .f32⟩
  | 29 => ⟨S128x32768, .f32⟩
  | 30 => ⟨S128x32768, .f32⟩
  | 31 => ⟨S128x32768, .f32⟩
  | 32 => ⟨S128x32768, .f32⟩
  | 33 => ⟨S_, .f32⟩
  | 34 => ⟨S128x32768, .f32⟩
  | 35 => ⟨S128x32768, .f32⟩
  | 36 => ⟨S128x32768, .f32⟩
  | 37 => ⟨S_, .f32⟩
  | 38 => ⟨S128, .f32⟩
  | 39 => ⟨S128x1, .f32⟩
  | 40 => ⟨S_, .f32⟩
  | 41 => ⟨S128x1, .f32⟩
  | 42 => ⟨S128x1, .f32⟩
  | 43 => ⟨S128x32768, .f32⟩
  | 44 => ⟨S128x32768, .f32⟩
  | _ => ⟨S128x32768, .f32⟩

abbrev hbmTy (i : Nat) : BufTy := match i / 128 with
  | 0 => hbmTy0_0 i
  | 1 => hbmTy0_1 i
  | 2 => hbmTy0_2 i
  | _ => ⟨S128x32768, .f32⟩

abbrev bufTy : (tb : Table) → Fin (tcTables nBuf tb) → BufTy
  | .hbm, ⟨i, _⟩ => hbmTy i
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_3 : Ref sig .tc := ⟨.hbm, 18, rfl⟩
abbrev main_v13 : Ref sig .tc := ⟨.hbm, 19, rfl⟩
abbrev main_v14 : Ref sig .tc := ⟨.hbm, 20, rfl⟩
abbrev main_cst_4 : Ref sig .tc := ⟨.hbm, 21, rfl⟩
abbrev main_v15 : Ref sig .tc := ⟨.hbm, 22, rfl⟩
abbrev main_v16 : Ref sig .tc := ⟨.hbm, 23, rfl⟩
abbrev main_cst_5 : Ref sig .tc := ⟨.hbm, 24, rfl⟩
abbrev main_v17 : Ref sig .tc := ⟨.hbm, 25, rfl⟩
abbrev main_v18 : Ref sig .tc := ⟨.hbm, 26, rfl⟩
abbrev main_cst_6 : Ref sig .tc := ⟨.hbm, 27, rfl⟩
abbrev main_v19 : Ref sig .tc := ⟨.hbm, 28, rfl⟩
abbrev main_v20 : Ref sig .tc := ⟨.hbm, 29, rfl⟩
abbrev main_cst_7 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_8 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_9 : Ref sig .tc := ⟨.hbm, 41, rfl⟩
abbrev main_v30 : Ref sig .tc := ⟨.hbm, 42, rfl⟩
abbrev main_v31 : Ref sig .tc := ⟨.hbm, 43, rfl⟩
abbrev main_cst_10 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_11 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_12 : Ref sig .tc := ⟨.hbm, 56, rfl⟩
abbrev main_v42 : Ref sig .tc := ⟨.hbm, 57, rfl⟩
abbrev main_v43 : Ref sig .tc := ⟨.hbm, 58, rfl⟩
abbrev main_cst_13 : Ref sig .tc := ⟨.hbm, 59, rfl⟩
abbrev main_call1_v0 : Ref sig .tc := ⟨.hbm, 60, rfl⟩
abbrev main_call1_v1 : Ref sig .tc := ⟨.hbm, 61, rfl⟩
abbrev main_v44 : Ref sig .tc := ⟨.hbm, 62, rfl⟩
abbrev main_v45 : Ref sig .tc := ⟨.hbm, 63, rfl⟩
abbrev main_cst_14 : Ref sig .tc := ⟨.hbm, 64, rfl⟩
abbrev main_v46 : Ref sig .tc := ⟨.hbm, 65, rfl⟩
abbrev main_v47 : Ref sig .tc := ⟨.hbm, 66, rfl⟩
abbrev main_cst_15 : Ref sig .tc := ⟨.hbm, 67, rfl⟩
abbrev main_v48 : Ref sig .tc := ⟨.hbm, 68, rfl⟩
abbrev main_v49 : Ref sig .tc := ⟨.hbm, 69, rfl⟩
abbrev main_cst_16 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_17 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_18 : Ref sig .tc := ⟨.hbm, 82, rfl⟩
abbrev main_v60 : Ref sig .tc := ⟨.hbm, 83, rfl⟩
abbrev main_v61 : Ref sig .tc := ⟨.hbm, 84, rfl⟩
abbrev main_cst_19 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_20 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_21 : Ref sig .tc := ⟨.hbm, 97, rfl⟩
abbrev main_v72 : Ref sig .tc := ⟨.hbm, 98, rfl⟩
abbrev main_v73 : Ref sig .tc := ⟨.hbm, 99, rfl⟩
abbrev main_cst_22 : Ref sig .tc := ⟨.hbm, 100, rfl⟩
abbrev main_call3_v0 : Ref sig .tc := ⟨.hbm, 101, rfl⟩
abbrev main_call3_v1 : Ref sig .tc := ⟨.hbm, 102, rfl⟩
abbrev main_v74 : Ref sig .tc := ⟨.hbm, 103, rfl⟩
abbrev main_v75 : Ref sig .tc := ⟨.hbm, 104, rfl⟩
abbrev main_cst_23 : Ref sig .tc := ⟨.hbm, 105, rfl⟩
abbrev main_v76 : Ref sig .tc := ⟨.hbm, 106, rfl⟩
abbrev main_v77 : Ref sig .tc := ⟨.hbm, 107, rfl⟩
abbrev main_cst_24 : Ref sig .tc := ⟨.hbm, 108, rfl⟩
abbrev main_v78 : Ref sig .tc := ⟨.hbm, 109, rfl⟩
abbrev main_v79 : Ref sig .tc := ⟨.hbm, 110, rfl⟩
abbrev main_cst_25 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_26 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_27 : Ref sig .tc := ⟨.hbm, 123, rfl⟩
abbrev main_v90 : Ref sig .tc := ⟨.hbm, 124, rfl⟩
abbrev main_v91 : Ref sig .tc := ⟨.hbm, 125, rfl⟩
abbrev main_cst_28 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_29 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_30 : Ref sig .tc := ⟨.hbm, 138, rfl⟩
abbrev main_v102 : Ref sig .tc := ⟨.hbm, 139, rfl⟩
abbrev main_v103 : Ref sig .tc := ⟨.hbm, 140, rfl⟩
abbrev main_cst_31 : Ref sig .tc := ⟨.hbm, 141, rfl⟩
abbrev main_call5_v0 : Ref sig .tc := ⟨.hbm, 142, rfl⟩
abbrev main_call5_v1 : Ref sig .tc := ⟨.hbm, 143, rfl⟩
abbrev main_v104 : Ref sig .tc := ⟨.hbm, 144, rfl⟩
abbrev main_v105 : Ref sig .tc := ⟨.hbm, 145, rfl⟩
abbrev main_cst_32 : Ref sig .tc := ⟨.hbm, 146, rfl⟩
abbrev main_v106 : Ref sig .tc := ⟨.hbm, 147, rfl⟩
abbrev main_v107 : Ref sig .tc := ⟨.hbm, 148, rfl⟩
abbrev main_cst_33 : Ref sig .tc := ⟨.hbm, 149, rfl⟩
abbrev main_v108 : Ref sig .tc := ⟨.hbm, 150, rfl⟩
abbrev main_v109 : Ref sig .tc := ⟨.hbm, 151, rfl⟩
abbrev main_cst_34 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_cst_35 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_cst_36 : Ref sig .tc := ⟨.hbm, 164, rfl⟩
abbrev main_v120 : Ref sig .tc := ⟨.hbm, 165, rfl⟩
abbrev main_v121 : Ref sig .tc := ⟨.hbm, 166, rfl⟩
abbrev main_cst_37 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_cst_38 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_cst_39 : Ref sig .tc := ⟨.hbm, 179, rfl⟩
abbrev main_v132 : Ref sig .tc := ⟨.hbm, 180, rfl⟩
abbrev main_v133 : Ref sig .tc := ⟨.hbm, 181, rfl⟩
abbrev main_cst_40 : Ref sig .tc := ⟨.hbm, 182, rfl⟩
abbrev main_call7_v0 : Ref sig .tc := ⟨.hbm, 183, rfl⟩
abbrev main_call7_v1 : Ref sig .tc := ⟨.hbm, 184, rfl⟩
abbrev main_v134 : Ref sig .tc := ⟨.hbm, 185, rfl⟩
abbrev main_v135 : Ref sig .tc := ⟨.hbm, 186, rfl⟩
abbrev main_cst_41 : Ref sig .tc := ⟨.hbm, 187, rfl⟩
abbrev main_v136 : Ref sig .tc := ⟨.hbm, 188, rfl⟩
abbrev main_v137 : Ref sig .tc := ⟨.hbm, 189, rfl⟩
abbrev main_cst_42 : Ref sig .tc := ⟨.hbm, 190, rfl⟩
abbrev main_v138 : Ref sig .tc := ⟨.hbm, 191, rfl⟩
abbrev main_v139 : Ref sig .tc := ⟨.hbm, 192, rfl⟩
abbrev main_cst_43 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_cst_44 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_cst_45 : Ref sig .tc := ⟨.hbm, 205, rfl⟩
abbrev main_v150 : Ref sig .tc := ⟨.hbm, 206, rfl⟩
abbrev main_v151 : Ref sig .tc := ⟨.hbm, 207, rfl⟩
abbrev main_cst_46 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_cst_47 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_cst_48 : Ref sig .tc := ⟨.hbm, 220, rfl⟩
abbrev main_v162 : Ref sig .tc := ⟨.hbm, 221, rfl⟩
abbrev main_v163 : Ref sig .tc := ⟨.hbm, 222, rfl⟩
abbrev main_cst_49 : Ref sig .tc := ⟨.hbm, 223, rfl⟩
abbrev main_call9_v0 : Ref sig .tc := ⟨.hbm, 224, rfl⟩
abbrev main_call9_v1 : Ref sig .tc := ⟨.hbm, 225, rfl⟩
abbrev main_v164 : Ref sig .tc := ⟨.hbm, 226, rfl⟩
abbrev main_v165 : Ref sig .tc := ⟨.hbm, 227, rfl⟩
abbrev main_cst_50 : Ref sig .tc := ⟨.hbm, 228, rfl⟩
abbrev main_v166 : Ref sig .tc := ⟨.hbm, 229, rfl⟩
abbrev main_v167 : Ref sig .tc := ⟨.hbm, 230, rfl⟩
abbrev main_cst_51 : Ref sig .tc := ⟨.hbm, 231, rfl⟩
abbrev main_v168 : Ref sig .tc := ⟨.hbm, 232, rfl⟩
abbrev main_v169 : Ref sig .tc := ⟨.hbm, 233, rfl⟩
abbrev main_cst_52 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_cst_53 : Ref sig .tc := ⟨.hbm, 242, rfl⟩
abbrev main_v177 : Ref sig .tc := ⟨.hbm, 243, rfl⟩
abbrev main_v178 : Ref sig .tc := ⟨.hbm, 244, rfl⟩
abbrev main_v179 : Ref sig .tc := ⟨.hbm, 245, rfl⟩
abbrev main_cst_54 : Ref sig .tc := ⟨.hbm, 246, rfl⟩
abbrev main_v180 : Ref sig .tc := ⟨.hbm, 247, rfl⟩
abbrev main_v181 : Ref sig .tc := ⟨.hbm, 248, rfl⟩
abbrev main_cst_55 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_cst_56 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_cst_57 : Ref sig .tc := ⟨.hbm, 261, rfl⟩
abbrev main_v192 : Ref sig .tc := ⟨.hbm, 262, rfl⟩
abbrev main_v193 : Ref sig .tc := ⟨.hbm, 263, rfl⟩
abbrev main_cst_58 : Ref sig .tc := ⟨.hbm, 264, rfl⟩
abbrev main_call11_v0 : Ref sig .tc := ⟨.hbm, 265, rfl⟩
abbrev main_call11_v1 : Ref sig .tc := ⟨.hbm, 266, rfl⟩
abbrev main_v194 : Ref sig .tc := ⟨.hbm, 267, rfl⟩
abbrev main_v195 : Ref sig .tc := ⟨.hbm, 268, rfl⟩
abbrev main_cst_59 : Ref sig .tc := ⟨.hbm, 269, rfl⟩
abbrev main_v196 : Ref sig .tc := ⟨.hbm, 270, rfl⟩
abbrev main_v197 : Ref sig .tc := ⟨.hbm, 271, rfl⟩
abbrev main_cst_60 : Ref sig .tc := ⟨.hbm, 272, rfl⟩
abbrev main_v198 : Ref sig .tc := ⟨.hbm, 273, rfl⟩
abbrev main_v199 : Ref sig .tc := ⟨.hbm, 274, rfl⟩
abbrev main_cst_61 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_v204 : Ref sig .tc := ⟨.hbm, 280, rfl⟩
abbrev main_v205 : Ref sig .tc := ⟨.hbm, 281, rfl⟩
abbrev main_v206 : Ref sig .tc := ⟨.hbm, 282, rfl⟩
abbrev main_cst_62 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_v210 : Ref sig .tc := ⟨.hbm, 287, rfl⟩
abbrev main_v211 : Ref sig .tc := ⟨.hbm, 288, rfl⟩
abbrev main_cst_63 : Ref sig .tc := ⟨.hbm, 289, rfl⟩
abbrev main_v212 : Ref sig .tc := ⟨.hbm, 290, rfl⟩
abbrev main_v213 : Ref sig .tc := ⟨.hbm, 291, rfl⟩
abbrev main_v214 : Ref sig .tc := ⟨.hbm, 292, rfl⟩
abbrev main_cst_64 : Ref sig .tc := ⟨.hbm, 293, rfl⟩
abbrev main_v215 : Ref sig .tc := ⟨.hbm, 294, rfl⟩
abbrev main_v216 : Ref sig .tc := ⟨.hbm, 295, rfl⟩
abbrev main_cst_65 : Ref sig .tc := ⟨.hbm, 296, rfl⟩
abbrev main_v217 : Ref sig .tc := ⟨.hbm, 297, rfl⟩
abbrev main_v218 : Ref sig .tc := ⟨.hbm, 298, rfl⟩
abbrev main_v219 : Ref sig .tc := ⟨.hbm, 299, rfl⟩
abbrev main_v220 : Ref sig .tc := ⟨.hbm, 300, rfl⟩

abbrev nD : Nat := 1
abbrev τ : Topo := Topo.v7x

variable {F : FTy → Type} [FloatOps F]
-- ==== Proof.Model.lean ====
/-
  The kernel's body in short form.

  The printed body is unrolled: 64 loads of 512 columns appear one after another in each of its sweeps over a
  block of 32 rows. This file writes each sweep as a recursion over the 64 column chunks, and states that the
  values the run of the body found are those recursions, for the trip of its loop (`trip_eq`), for the state after
  all six trips (`state_eq`) and for what is stored at an index of the output block (`block_apply`).
-/
module

public import proofs.«01_k».proof.Proof.Gen.KernelIdeal.Value
public import Idealize.ShloMosaic.Lib.VecWindow
public import Idealize.ShloMosaic.Lib.Pipeline.ValueKit.Tiles

@[expose] public section

noncomputable section

namespace Cert.Proof.Model

open Cert.KernelIdeal Cert.KernelIdeal.Gen
open Idealize.ShloMosaic Idealize.ShloMosaic.TcCoe

/-- A column of one value a row. -/
abbrev Col (F : FTy → Type) := FVec F S32x1 .f32

/-- A chunk of 512 columns. -/
abbrev Chunk (F : FTy → Type) := FVec F S32x512 .f32

variable {F : FTy → Type} [FloatOps F]

/-- The chunk's 512 lanes folded onto 128 by two halvings. -/
def tree (u : Chunk F) : FVec F S32x128 .f32 :=
  have h : FVec F S32x256 .f32 := addf (extractStridedSlice S32x256 ![0, 0] u slices_S32x512_o0_0_S32x256)
    (extractStridedSlice S32x256 ![0, 256] u slices_S32x512_o0_256_S32x256)
  addf (extractStridedSlice S32x128 ![0, 0] h slices_S32x256_o0_0_S32x128)
    (extractStridedSlice S32x128 ![0, 128] h slices_S32x256_o0_128_S32x128)

/-- A threshold a row, spread over a chunk. -/
def spread (t : Col F) : Chunk F :=
  addf (broadcastTo S32x512 t broadcasts_S32x1_S32x512) (broadcast S32x512 (Scalar.ofBits .f32 0x00000000#32))

/-- By how much the chunk's entries exceed the threshold, never below zero. -/
def gap (tb v : Chunk F) : Chunk F :=
  maximumf (subf v tb) (broadcast S32x512 (Scalar.ofBits .f32 0x00000000#32))

/-- The running lane sums of the excess after `k` chunks. -/
def sum1 (ld : Fin 64 → Chunk F) (tb : Chunk F) : (k : ℕ) → k ≤ 64 → FVec F S32x128 .f32
  | 0, _ => broadcast S32x128 (Scalar.ofBits .f32 0x00000000#32)
  | k + 1, h => addf (sum1 ld tb k (Nat.le_of_succ_le h)) (tree (gap tb (ld ⟨k, h⟩)))

/-- The running lane sums of the squared excess after `k` chunks. -/
def sum2 (ld : Fin 64 → Chunk F) (tb : Chunk F) : (k : ℕ) → k ≤ 64 → FVec F S32x128 .f32
  | 0, _ => broadcast S32x128 (Scalar.ofBits .f32 0x00000000#32)
  | k + 1, h => addf (sum2 ld tb k (Nat.le_of_succ_le h)) (tree (mulf (gap tb (ld ⟨k, h⟩)) (gap tb (ld ⟨k, h⟩))))

/-- The running lane maxima of the first `k + 1` chunks. -/
def maxs (ld : Fin 64 → Chunk F) : (k : ℕ) → k < 64 → (Chunk F)
  | 0, h => ld ⟨0, h⟩
  | k + 1, h => maximumf (maxs ld k (Nat.lt_of_succ_lt h)) (ld ⟨k + 1, h⟩)

/-- The sum of a row's 128 lanes. -/
def rowSum (a : FVec F S32x128 .f32) : FVec F S32 .f32 :=
  multiReduction .add [1] S32 a 0x00000000#32 reduces_S32x128_S32 (.inl rfl) rfl

/-- One value a row, as a column. -/
def col (a : FVec F S32 .f32) : Col F := shapeCast S32x1 a shapeCasts_S32_S32x1

/-- The maximum of every row. -/
def top (ld : Fin 64 → Chunk F) : Col F :=
  col (multiReduction .maximumf [1] S32 (maxs ld 63 (by omega)) 0xFF800000#32 reduces_S32x512_S32 (.inl rfl) rfl)

/-- The constant column of a word. -/
def const (w : BitVec 32) : Col F := broadcast S32x1 (Scalar.ofBits .f32 w)

/-- The sum of squared excesses of every row over its threshold. -/
def mass (ld : Fin 64 → Chunk F) (t : Col F) : Col F := col (rowSum (sum2 ld (spread t) 64 le_rfl))

/-- The sum of excesses of every row over its threshold. -/
def part (ld : Fin 64 → Chunk F) (t : Col F) : Col F := col (rowSum (sum1 ld (spread t) 64 le_rfl))

/-- The first threshold: one below the maximum. -/
def low (m : Col F) : Col F := subf m (const 0x3F800000#32)

/-- What the loop carries on entry: one Newton step from the first threshold. -/
def start (ld : Fin 64 → Chunk F) (m : Col F) : (Col F) × (Col F) × (Col F) × (Col F) × (Col F) :=
  (addf (low m) (divf (subf (mass ld (low m)) (const 0x3F800000#32))
      (mulf (const 0x40000000#32) (maximumf (part ld (low m)) (const 0x0DA24260#32)))),
    low m, mass ld (low m), low m, mass ld (low m))

/-- The next best threshold. -/
def bestT (f t tb : Col F) : Col F := select (andi (cmpf .oge f (const 0x3F800000#32)) (cmpf .ogt t tb)) t tb

/-- The next best sum. -/
def bestF (f t tb fb : Col F) : Col F :=
  select (andi (cmpf .oge f (const 0x3F800000#32)) (cmpf .oge t (bestT f t tb))) f fb

/-- The next threshold: a secant step, clipped. -/
def secant (m f t tp fp : Col F) : Col F :=
  minimumf m (maximumf (subf m (const 0x3F800000#32))
    (addf t (minimumf (const 0x3F800000#32) (maximumf (const 0xBF800000#32)
      (divf (mulf (subf f (const 0x3F800000#32)) (subf t tp))
        (select (cmpf .ogt (absf (subf fp f)) (const 0x0DA24260#32)) (subf fp f) (const 0x0DA24260#32)))))))

/-- One trip of the loop on its carried columns. -/
def trip (ld : Fin 64 → Chunk F) (m : Col F) (s : (Col F) × (Col F) × (Col F) × (Col F) × (Col F)) : (Col F) × (Col F) × (Col F) × (Col F) × (Col F) :=
  (secant m (mass ld s.1) s.1 s.2.1 s.2.2.1, s.1, mass ld s.1, bestT (mass ld s.1) s.1 s.2.2.2.1,
    bestF (mass ld s.1) s.1 s.2.2.2.1 s.2.2.2.2)

/-- What is stored of one chunk. -/
def outChunk (tau norm : Col F) (v : Chunk F) : Chunk F :=
  mulf (mulf (gap (spread tau) v) (gap (spread tau) v))
    (spread (divf (const 0x3F800000#32) (maximumf norm (const 0x2B8CBCCC#32))))

theorem inb (j : Fin 64) : ∀ a, (![0, 512 * j.val] : Fin 2 → ℕ) a + S32x512.size a ≤ S32x32768.size a := by
  intro a
  have := j.isLt
  match a with
  | ⟨0, _⟩ => show 0 + 32 ≤ 32; omega
  | ⟨1, _⟩ => show 512 * j.val + 512 ≤ 32768; omega

/-- (Chunk F) `j` of the block held by a buffer. -/
def loads (arg1 : Memref sig .tc .vmem S32x32768 .f32) (X : BufTy.Contents (Elt F) arg1.view.ty) (j : Fin 64) : Chunk F :=
  arg1.view.readAt (Elt F) (Rect.unit (s := S32x32768) ![0, 512 * j.val] S32x512.size (inb j)).toLoadRect X

/-- One trip, as the run found it, is `trip`. -/
theorem trip_eq (c : Dev nD) (i : grid0.Coords) (arg1 : Memref sig .tc .vmem S32x32768 .f32) (harg1 : arg1.IsWhole)
    (arg2 : Memref sig .tc .vmem S32x32768 .f32) (harg2 : arg2.IsWhole) (v128 v130 : Col F) (v1351 : FVec F S32x128 .f32)
    (v1352 : FVec F S32 .f32) (X : BufTy.Contents (Elt F) arg1.view.ty) (k : Fin k0_t1_loop.trips)
    (acc : (Col F) × (Col F) × (Col F) × (Col F) × (Col F)) :
    (trip_k0_t1 (F := F) Variants.none c none i arg1 harg1 arg2 harg2 v128 v130 k0_pay72 v1351 v1352 X k).1 acc
      = trip (loads arg1 X) v128 acc := by
  obtain ⟨a, b, d, e, g⟩ := acc
  unfold trip_k0_t1
  rfl

theorem trips_eq : k0_t1_loop.trips = 6 := by decide

/-- What the loop leaves is six trips from what it carries on entry. -/
theorem state_eq (c : Dev nD) (i : grid0.Coords) (arg1 : Memref sig .tc .vmem S32x32768 .f32) (harg1 : arg1.IsWhole)
    (arg2 : Memref sig .tc .vmem S32x32768 .f32) (harg2 : arg2.IsWhole) (v128 v130 : Col F) (v1351 : FVec F S32x128 .f32)
    (v1352 : FVec F S32 .f32) (X : BufTy.Contents (Elt F) arg1.view.ty) (init : Col F × Col F × Col F × Col F × Col F) :
    ∀ n, n ≤ 6 → st_k0_t1 (F := F) Variants.none c none i arg1 harg1 arg2 harg2 v128 v130 k0_pay72 v1351 v1352 X init n
      = (trip (loads arg1 X) v128)^[n] init
  | 0, _ => rfl
  | n + 1, h => by
    have hn : n < k0_t1_loop.trips := by rw [trips_eq]; omega
    rw [Function.iterate_succ_apply', ← state_eq c i arg1 harg1 arg2 harg2 v128 v130 v1351 v1352 X init n (by omega)]
    exact (st_k0_t1_succ Variants.none c none i arg1 harg1 arg2 harg2 v128 v130 k0_pay72 v1351 v1352 X init ⟨n, hn⟩).trans
      (trip_eq ..)

/-- What the loop leaves for a block. -/
def final (ld : Fin 64 → Chunk F) : Col F × Col F × Col F × Col F × Col F := (trip ld (top ld))^[6] (start ld (top ld))

/-- What the run of the body stores: one piece a chunk, the last first. -/
theorem run_loop (c : Dev nD) (i : grid0.Coords) (arg1 : Memref sig .tc .vmem S32x32768 .f32) (harg1 : arg1.IsWhole)
    (arg2 : Memref sig .tc .vmem S32x32768 .f32) (harg2 : arg2.IsWhole) (x0 : Vec F S32x32768 .f32) :
   (kernelRun0_A (F := F) c i arg1 harg1 arg2 harg2 x0).1 = (List.finRange 64).reverse.map fun j =>
     (⟨Rect.unit (s := S32x32768) ![0, 512 * j.val] S32x512.size (inb j),
       outChunk (final (loads arg1 (harg1.unread x0))).2.2.2.1 (final (loads arg1 (harg1.unread x0))).2.2.2.2
         (loads arg1 (harg1.unread x0) j)⟩ : View.Piece (Elt F) S32x32768 .f32) := by
  unfold final
  have h := state_eq c i arg1 harg1 arg2 harg2 (top (loads arg1 (harg1.unread x0))) (low (top (loads arg1 (harg1.unread x0))))
    (sum2 (loads arg1 (harg1.unread x0)) (spread (low (top (loads arg1 (harg1.unread x0))))) 64 le_rfl)
    (rowSum (sum1 (loads arg1 (harg1.unread x0)) (spread (low (top (loads arg1 (harg1.unread x0))))) 64 le_rfl))
    (harg1.unread x0) (start (loads arg1 (harg1.unread x0)) (top (loads arg1 (harg1.unread x0)))) 6 le_rfl
  rw [← h]
  unfold kernelRun0_A
  rfl

theorem loads_apply (arg1 : Memref sig .tc .vmem S32x32768 .f32) (harg1 : arg1.IsWhole) (x0 : Vec F S32x32768 .f32) (j : Fin 64)
    (y : S32x512.Idx) :
    loads arg1 (harg1.unread x0) j y = x0 ((Rect.unit (s := S32x32768) ![0, 512 * j.val] S32x512.size (inb j)).idx y) := by
  unfold loads
  rw [View.readAt_apply, harg1.read_unread]

/-- Chunk `j` of a block. -/
def chunk (x0 : Vec F S32x32768 .f32) (j : Fin 64) : Chunk F := fun y =>
  x0 ((Rect.unit (s := S32x32768) ![0, 512 * j.val] S32x512.size (inb j)).idx y)

theorem loads_eq (arg1 : Memref sig .tc .vmem S32x32768 .f32) (harg1 : arg1.IsWhole) (x0 : Vec F S32x32768 .f32) :
    loads arg1 (harg1.unread x0) = chunk x0 :=
  funext fun j => funext fun y => loads_apply arg1 harg1 x0 j y

/-- WHAT IS STORED at an index of the output block: the result of the chunk that holds it. -/
theorem block_apply (c : Dev nD) (i : grid0.Coords) (arg1 : Memref sig .tc .vmem S32x32768 .f32) (harg1 : arg1.IsWhole)
    (arg2 : Memref sig .tc .vmem S32x32768 .f32) (harg2 : arg2.IsWhole) (x0 : Vec F S32x32768 .f32)
    (G : S32x32768.Idx → F .f32)
    (hG : ∀ (j : Fin 64) (y : S32x512.Idx), outChunk (final (chunk x0)).2.2.2.1 (final (chunk x0)).2.2.2.2 (chunk x0 j) y
      = G ((Rect.unit (s := S32x32768) ![0, 512 * j.val] S32x512.size (inb j)).idx y)) (y : S32x32768.Idx) :
    out0_A_1 c i arg1 harg1 arg2 harg2 x0 y = G y := by
  unfold out0_A_1
  rw [View.read_writes_eq_canon _ _ _ (cover0_A_1 c i arg1 harg1 arg2 harg2 x0)]
  refine View.canon_apply_of_pieces G _ ?_ y (cover0_A_1 c i arg1 harg1 arg2 harg2 x0 y)
  rw [run_loop, loads_eq]
  intro p hp x
  obtain ⟨j, _, rfl⟩ := List.mem_map.mp hp
  exact hG j x

end Cert.Proof.Model

end

end
-- ==== Proof.Threshold.lean ====
module

public import Idealize.ShloMosaic.PureOps.Ideal
public import Mathlib.Order.Interval.Finset.Fin
public import Mathlib.Tactic.Linarith
public import Mathlib.Tactic.FieldSimp
public import Mathlib.Tactic.Ring
public import Mathlib.Tactic.Positivity

@[expose] public section

noncomputable section

/-! # Rows of real scores and their threshold

A row is a family of `n` real scores. Its weights at a threshold `t` are the squares of the parts of the
scores above `t`; `mass x t` is their sum. The entmax weights are those of a threshold at which they sum
to one. -/

namespace Cert.Proof.Threshold

open Finset

variable {n : ℕ}

/-- The weight at threshold `t` of a score: the square of its part above `t`. -/
def wt (a t : ℝ) : ℝ := max (a - t) 0 * max (a - t) 0

/-- The sum of a row's weights at threshold `t`. -/
def mass (x : Fin n → ℝ) (t : ℝ) : ℝ := ∑ i, wt (x i) t

/-- The sum of the parts of a row's scores above `t`. -/
def part (x : Fin n → ℝ) (t : ℝ) : ℝ := ∑ i, max (x i - t) 0

/-- A weight is not negative. -/
theorem wt_nonneg (a t : ℝ) : 0 ≤ wt a t := mul_self_nonneg _

/-- A weight falls as the threshold rises. -/
theorem wt_anti (a : ℝ) {t t' : ℝ} (h : t ≤ t') : wt a t' ≤ wt a t := by
  have h1 : max (a - t') 0 ≤ max (a - t) 0 := max_le_max (by linarith) le_rfl
  exact mul_self_le_mul_self (le_max_right _ _) h1

/-- A score at or below the threshold has weight zero. -/
theorem wt_of_le {a t : ℝ} (h : a ≤ t) : wt a t = 0 := by
  unfold wt; rw [max_eq_right (by linarith)]; ring

/-- A score at or above the threshold has the square of the difference. -/
theorem wt_of_ge {a t : ℝ} (h : t ≤ a) : wt a t = (a - t) ^ 2 := by
  unfold wt; rw [max_eq_left (by linarith)]; ring

/-- The mass falls as the threshold rises. -/
theorem mass_anti (x : Fin n → ℝ) {t t' : ℝ} (h : t ≤ t') : mass x t' ≤ mass x t :=
  Finset.sum_le_sum fun i _ => wt_anti (x i) h

/-- Each weight is at most their sum. -/
theorem wt_le_mass (x : Fin n → ℝ) (t : ℝ) (i : Fin n) : wt (x i) t ≤ mass x t :=
  Finset.single_le_sum (f := fun i => wt (x i) t) (fun i _ => wt_nonneg _ _) (Finset.mem_univ i)

/-- Weights that sum to one are below those of every threshold whose mass is at least one. -/
theorem wt_le_of_mass {x : Fin n → ℝ} {t s : ℝ} (hs : mass x s = 1) (ht : 1 ≤ mass x t) (i : Fin n) :
    wt (x i) s ≤ wt (x i) t := by
  rcases le_total t s with h | h
  · exact wt_anti _ h
  · have hle : ∀ j ∈ (Finset.univ : Finset (Fin n)), wt (x j) t ≤ wt (x j) s := fun j _ => wt_anti _ h
    have heq : ∑ j, wt (x j) t = ∑ j, wt (x j) s :=
      le_antisymm (Finset.sum_le_sum hle) (by show mass x s ≤ mass x t; rw [hs]; exact ht)
    exact le_of_eq ((Finset.sum_eq_sum_iff_of_le hle).mp heq i (Finset.mem_univ i)).symm

/-- The weights that sum to one are the same at every such threshold. -/
theorem wt_unique {x : Fin n → ℝ} {t s : ℝ} (hs : mass x s = 1) (ht : mass x t = 1) (i : Fin n) :
    wt (x i) s = wt (x i) t :=
  le_antisymm (wt_le_of_mass hs ht.ge i) (wt_le_of_mass ht hs.ge i)

/-- The weights of a threshold of mass `1 + r`, divided by that mass, are within `r` of those that sum to one. -/
theorem near_of_mass {x : Fin n → ℝ} {t s : ℝ} (hs : mass x s = 1) (ht : 1 ≤ mass x t) (i : Fin n) :
    |wt (x i) t / mass x t - wt (x i) s| ≤ mass x t - 1 := by
  have hle := wt_le_of_mass hs ht i
  have hpos : 0 < mass x t := by linarith
  have hgap : wt (x i) t - wt (x i) s ≤ mass x t - 1 := by
    have h : wt (x i) t - wt (x i) s ≤ ∑ j, (wt (x j) t - wt (x j) s) :=
      Finset.single_le_sum (f := fun j => wt (x j) t - wt (x j) s)
        (fun j _ => sub_nonneg.mpr (wt_le_of_mass hs ht j)) (Finset.mem_univ i)
    rw [Finset.sum_sub_distrib] at h
    have h2 : ∑ j, wt (x j) s = 1 := hs
    rw [h2] at h; exact h
  have hz : wt (x i) s ≤ 1 := hs ▸ wt_le_mass x s i
  have hz0 := wt_nonneg (x i) s
  have hu0 := wt_nonneg (x i) t
  have hdiv : wt (x i) t / mass x t ≤ wt (x i) t := div_le_self hu0 ht
  have hlow : wt (x i) s - (mass x t - 1) ≤ wt (x i) t / mass x t := by
    rw [le_div_iff₀ hpos]
    nlinarith [mul_nonneg hz0 (sub_nonneg.mpr ht), mul_nonneg (sub_nonneg.mpr hz) (sub_nonneg.mpr ht),
      sq_nonneg (mass x t - 1), mul_nonneg (mul_nonneg (sub_nonneg.mpr hz) (sub_nonneg.mpr ht)) hpos.le]
  rw [abs_le]; constructor <;> linarith

/-- Dividing scores and threshold by a positive number divides each weight by its square. -/
theorem wt_div (a t : ℝ) {T : ℝ} (hT : 0 < T) : wt (a / T) (t / T) = wt a t / (T * T) := by
  unfold wt
  have h : max (a / T - t / T) 0 = max (a - t) 0 / T := by
    rw [← sub_div, ← zero_div T, max_div_div_right hT.le, zero_div]
  rw [h]; field_simp

/-- Where every score is the row's maximum or at least one below it, all weights that sum to one, from any
threshold no lower than the maximum less one, are the same. -/
theorem wt_of_apart {x : Fin n → ℝ} {M t s : ℝ} (hx : ∀ i, x i = M ∨ x i ≤ M - 1) (hM : ∃ i, x i = M) (hs : mass x s = 1)
    (hlow : M - 1 ≤ t) (ht : 1 ≤ mass x t) (i : Fin n) : wt (x i) t / mass x t = wt (x i) s := by
  have hzero : ∀ r, M - 1 ≤ r → ∀ j, x j ≠ M → wt (x j) r = 0 := fun r hr j hj =>
    wt_of_le (((hx j).resolve_left hj).trans hr)
  have hmass1 : 1 ≤ mass x (M - 1) := by
    obtain ⟨j, hj⟩ := hM
    have h := wt_le_mass x (M - 1) j
    have h1 : wt (x j) (M - 1) = 1 := by rw [hj, wt_of_ge (by linarith)]; ring
    linarith
  have hzs : ∀ j, x j ≠ M → wt (x j) s = 0 := fun j hj =>
    le_antisymm ((wt_le_of_mass hs hmass1 j).trans (hzero _ le_rfl j hj).le) (wt_nonneg _ _)
  have hsum : ∀ r, (∀ j, x j ≠ M → wt (x j) r = 0) →
      mass x r = ((Finset.univ.filter fun j => x j = M).card : ℝ) * wt M r := by
    intro r hr
    have h1 : mass x r = ∑ j, if x j = M then wt M r else 0 := by
      refine Finset.sum_congr rfl fun j _ => ?_
      split_ifs with h
      · rw [h]
      · exact hr j h
    rw [h1, ← Finset.sum_filter, Finset.sum_const, nsmul_eq_mul]
  have h1 := hsum t (hzero t hlow)
  have h2 := hsum s hzs
  rw [hs] at h2
  by_cases hi : x i = M
  · rw [hi, h1]
    have hc : ((Finset.univ.filter fun j => x j = M).card : ℝ) ≠ 0 := fun h => by rw [h] at h2; norm_num at h2
    have hw : wt M t ≠ 0 := fun h => by rw [h1, h, mul_zero] at ht; norm_num at ht
    field_simp
    linarith
  · rw [hzero t hlow i hi, hzs i hi, zero_div]

/-! ## The threshold of a sorted row -/

section Sorted

variable (s : Fin n → ℝ)

/-- How many scores stand at or before place `j`. -/
def cnt (j : Fin n) : ℝ := (j.val : ℝ) + 1
/-- The mean of the first scores, to place `j`. -/
def mean (j : Fin n) : ℝ := (∑ i ∈ Iic j, s i) / cnt j
/-- The mean of their squares. -/
def meanSq (j : Fin n) : ℝ := (∑ i ∈ Iic j, s i * s i) / cnt j
/-- The sum of their squared distances from their mean. -/
def spread (j : Fin n) : ℝ := cnt j * (meanSq s j - mean s j * mean s j)
/-- The candidate threshold at place `j`. -/
def tau (j : Fin n) : ℝ := mean s j - Real.sqrt (max 0 ((1 - spread s j) / cnt j))
/-- The sum of the squared distances of the first scores from that at place `j`. -/
def below (j : Fin n) : ℝ := ∑ i ∈ Iic j, (s i - s j) ^ 2

theorem cnt_pos (j : Fin n) : 0 < cnt j := by unfold cnt; positivity

theorem cnt_eq (j : Fin n) : cnt j = ((Iic j).card : ℝ) := by
  rw [Fin.card_Iic]; unfold cnt; push_cast; ring

/-- The squared distances of the first scores from any number: their spread, and their mean's distance. -/
theorem sum_sq_sub (j : Fin n) (t : ℝ) :
    ∑ i ∈ Iic j, (s i - t) ^ 2 = spread s j + cnt j * (mean s j - t) ^ 2 := by
  have hc := (cnt_pos j).ne'
  have h : ∑ i ∈ Iic j, (s i - t) ^ 2
      = (∑ i ∈ Iic j, s i * s i) - 2 * t * (∑ i ∈ Iic j, s i) + cnt j * t ^ 2 := by
    rw [cnt_eq, ← nsmul_eq_mul, ← Finset.sum_const, Finset.mul_sum, ← Finset.sum_sub_distrib, ← Finset.sum_add_distrib]
    exact Finset.sum_congr rfl fun i _ => by ring
  rw [h, spread, meanSq, mean]
  field_simp
  ring

variable {s} (hs : Antitone s)
include hs

theorem le_mean (j : Fin n) : s j ≤ mean s j := by
  rw [mean, le_div_iff₀ (cnt_pos j), cnt_eq, mul_comm, ← nsmul_eq_mul]
  exact Finset.card_nsmul_le_sum _ _ _ fun i hi => hs (Finset.mem_Iic.mp hi)

/-- A place is in the support exactly where the squared distances of the scores before it from it sum to at most one. -/
theorem support_iff (j : Fin n) : tau s j ≤ s j ↔ below s j ≤ 1 := by
  have hb : below s j = spread s j + cnt j * (mean s j - s j) ^ 2 := sum_sq_sub s j (s j)
  have hc := cnt_pos j
  have hm : 0 ≤ mean s j - s j := sub_nonneg.mpr (le_mean hs j)
  unfold tau
  constructor
  · intro h
    have hle : mean s j - s j ≤ Real.sqrt (max 0 ((1 - spread s j) / cnt j)) := by linarith
    by_cases hv : spread s j ≤ 1
    · have h0 : 0 ≤ (1 - spread s j) / cnt j := div_nonneg (by linarith) hc.le
      rw [max_eq_right h0, Real.le_sqrt hm h0, le_div_iff₀ hc] at hle
      rw [hb]; linarith
    · push Not at hv
      have h0 : (1 - spread s j) / cnt j ≤ 0 := div_nonpos_of_nonpos_of_nonneg (by linarith) hc.le
      rw [max_eq_left h0, Real.sqrt_zero] at hle
      have heq : mean s j - s j = 0 := le_antisymm hle hm
      have hall : ∑ i ∈ Iic j, (s i - s j) = 0 := by
        rw [Finset.sum_sub_distrib, Finset.sum_const, nsmul_eq_mul, ← cnt_eq]
        have : mean s j = s j := by linarith
        rw [mean, div_eq_iff hc.ne'] at this
        linarith
      have hz := (Finset.sum_eq_zero_iff_of_nonneg fun i hi => sub_nonneg.mpr (hs (Finset.mem_Iic.mp hi))).mp hall
      have : below s j = 0 := Finset.sum_eq_zero fun i hi => by rw [hz i hi]; ring
      linarith
  · intro h
    have hsq := mul_nonneg hc.le (sq_nonneg (mean s j - s j))
    have hv : spread s j ≤ 1 := by linarith
    have h0 : 0 ≤ (1 - spread s j) / cnt j := div_nonneg (by linarith) hc.le
    have : mean s j - s j ≤ Real.sqrt (max 0 ((1 - spread s j) / cnt j)) := by
      rw [max_eq_right h0, Real.le_sqrt hm h0, le_div_iff₀ hc]
      linarith
    linarith

theorem below_mono {j l : Fin n} (h : j ≤ l) : below s j ≤ below s l := by
  unfold below
  calc ∑ i ∈ Iic j, (s i - s j) ^ 2 ≤ ∑ i ∈ Iic j, (s i - s l) ^ 2 := by
        refine Finset.sum_le_sum fun i hi => ?_
        have h1 := hs (Finset.mem_Iic.mp hi)
        have h2 := hs h
        exact pow_le_pow_left₀ (by linarith) (by linarith) 2
    _ ≤ ∑ i ∈ Iic l, (s i - s l) ^ 2 :=
        Finset.sum_le_sum_of_subset_of_nonneg (Finset.Iic_subset_Iic.mpr h) fun i _ _ => sq_nonneg _

/-- The places in the support are the first ones. -/
theorem support_lt_iff (j : Fin n) : tau s j ≤ s j ↔ j.val < (univ.filter fun i => tau s i ≤ s i).card := by
  constructor
  · intro h
    have hsub : Iic j ⊆ univ.filter fun i => tau s i ≤ s i := fun i hi => by
      rw [Finset.mem_filter]
      exact ⟨Finset.mem_univ _, (support_iff hs i).mpr ((below_mono hs (Finset.mem_Iic.mp hi)).trans ((support_iff hs j).mp h))⟩
    have := Finset.card_le_card hsub
    rw [Fin.card_Iic] at this; omega
  · intro h
    by_contra hn
    have hsub : (univ.filter fun i => tau s i ≤ s i) ⊆ Iio j := fun i hi => by
      rw [Finset.mem_filter] at hi
      rw [Finset.mem_Iio]
      by_contra hij
      exact hn ((support_iff hs j).mpr ((below_mono hs (not_lt.mp hij)).trans ((support_iff hs i).mp hi.2)))
    have := Finset.card_le_card hsub
    rw [Fin.card_Iio] at this; omega

/-- The support has a place: the first. -/
theorem support_pos (hn : 0 < n) : 0 < (univ.filter fun i => tau s i ≤ s i).card := by
  have h : tau s ⟨0, hn⟩ ≤ s ⟨0, hn⟩ := by
    rw [support_iff hs, below]
    refine (Finset.sum_nonpos fun i hi => ?_).trans zero_le_one
    have h1 : i ≤ ⟨0, hn⟩ := Finset.mem_Iic.mp hi
    have h0 : i = ⟨0, hn⟩ := Fin.ext (Nat.le_zero.mp h1)
    rw [h0]; simp
  exact (support_lt_iff hs _).mp h

/-- At the last place of the support, the candidate threshold leaves weights that sum to one. -/
theorem mass_tau (K : Fin n) (hK : K.val + 1 = (univ.filter fun i => tau s i ≤ s i).card) : mass s (tau s K) = 1 := by
  have hin : tau s K ≤ s K := (support_lt_iff hs K).mpr (by omega)
  have hc := cnt_pos K
  have hsum : ∑ i ∈ Iic K, (s i - tau s K) ^ 2 = 1 := by
    rw [sum_sq_sub]
    have hb := (support_iff hs K).mp hin
    rw [below, sum_sq_sub] at hb
    have hsq := mul_nonneg hc.le (sq_nonneg (mean s K - s K))
    have h0 : 0 ≤ (1 - spread s K) / cnt K := div_nonneg (by linarith) hc.le
    have : mean s K - tau s K = Real.sqrt ((1 - spread s K) / cnt K) := by unfold tau; rw [max_eq_right h0]; ring
    rw [this, Real.sq_sqrt h0]
    field_simp
    ring
  have hout : ∀ j, K < j → s j ≤ tau s K := by
    intro j hj
    by_contra hgt
    push Not at hgt
    have hl : K.val + 1 < n := lt_of_le_of_lt hj j.isLt
    have hlj : s j ≤ s ⟨K.val + 1, hl⟩ := hs (show (⟨K.val + 1, hl⟩ : Fin n) ≤ j from hj)
    have hbl : below s ⟨K.val + 1, hl⟩ ≤ 1 := by
      have hsub : Iic K ⊆ Iic (⟨K.val + 1, hl⟩ : Fin n) := Finset.Iic_subset_Iic.mpr (by simp [Fin.le_def])
      rw [below, ← Finset.sum_subset hsub (fun i hi hi' => by
        rw [Finset.mem_Iic, Fin.le_def] at hi hi'
        have : i = ⟨K.val + 1, hl⟩ := Fin.ext (by simp only [] at hi ⊢; omega)
        rw [this]; simp)]
      rw [← hsum]
      refine Finset.sum_le_sum fun i hi => ?_
      have h1 : s ⟨K.val + 1, hl⟩ ≤ s i := hs ((Finset.mem_Iic.mp hi).trans (by simp [Fin.le_def]))
      exact pow_le_pow_left₀ (by linarith) (by linarith) 2
    have := (support_lt_iff hs _).mp ((support_iff hs _).mpr hbl)
    simp only [] at this; omega
  unfold mass
  rw [← hsum, ← Finset.sum_subset (Finset.subset_univ (Iic K)) (fun i _ hi => by
    rw [Finset.mem_Iic, not_le] at hi
    exact wt_of_le (hout i hi))]
  refine Finset.sum_congr rfl fun i hi => wt_of_ge (hin.trans (hs (Finset.mem_Iic.mp hi)))

end Sorted

/-- The mass of a row is that of the row in any order. -/
theorem mass_comp (x : Fin n → ℝ) {f : Fin n → Fin n} (hf : Function.Bijective f) (t : ℝ) :
    mass (fun i => x (f i)) t = mass x t :=
  hf.sum_comp fun i => wt (x i) t

end Cert.Proof.Threshold

end
-- ==== Proof.Secant.lean ====
module

public import proofs.«01_k».proof.Proof.Threshold

@[expose] public section

noncomputable section

/-! # The secant iteration on a row of real scores

The iteration looks for the threshold of mass one from below: it starts at the row's maximum less one,
where the mass is at least one, takes one Newton step, and then secant steps. It keeps the highest threshold
met whose mass is at least one, and that mass. The mass is convex in the threshold, so no step passes the
threshold of mass one, and each secant step leaves at most a quarter of the product of the excess mass and
the slope. -/

namespace Cert.Proof.Secant

open Finset Cert.Proof.Threshold

variable {n : ℕ}

/-! ## The mass is convex -/

/-- The tangent of a score's weight lies below it. -/
theorem wt_tangent (a t r : ℝ) : wt a t - 2 * max (a - t) 0 * (r - t) ≤ wt a r := by
  rcases le_total a t with h | h
  · rw [wt_of_le h, max_eq_right (by linarith)]
    have := wt_nonneg a r
    linarith
  · rw [wt_of_ge h, max_eq_left (by linarith)]
    rcases le_total r a with h' | h'
    · rw [wt_of_ge h']; nlinarith [sq_nonneg (r - t)]
    · rw [wt_of_le h']; nlinarith [mul_nonneg (sub_nonneg.mpr h) (sub_nonneg.mpr h')]

/-- The tangent of the mass lies below it. -/
theorem mass_tangent (x : Fin n → ℝ) (t r : ℝ) : mass x t - 2 * part x t * (r - t) ≤ mass x r := by
  unfold mass part
  rw [Finset.mul_sum, Finset.sum_mul, ← Finset.sum_sub_distrib]
  exact Finset.sum_le_sum fun i _ => wt_tangent (x i) t r

/-- From the maximum less one up, no part is more than one, so the parts sum to at least the mass. -/
theorem mass_le_part {x : Fin n → ℝ} {M t : ℝ} (hx : ∀ i, x i ≤ M) (ht : M - 1 ≤ t) : mass x t ≤ part x t := by
  refine Finset.sum_le_sum fun i _ => ?_
  have h0 : 0 ≤ max (x i - t) 0 := le_max_right _ _
  have h1 : max (x i - t) 0 ≤ 1 := max_le (by have := hx i; linarith) zero_le_one
  unfold wt
  nlinarith

/-- At the maximum or above it the mass is zero. -/
theorem mass_of_max_le {x : Fin n → ℝ} {M t : ℝ} (hx : ∀ i, x i ≤ M) (ht : M ≤ t) : mass x t = 0 :=
  Finset.sum_eq_zero fun i _ => wt_of_le ((hx i).trans ht)

/-- A threshold whose mass is at least one is below the maximum. -/
theorem lt_max {x : Fin n → ℝ} {M t : ℝ} (hx : ∀ i, x i ≤ M) (h : 1 ≤ mass x t) : t < M := by
  by_contra hn
  rw [mass_of_max_le hx (not_lt.mp hn)] at h
  norm_num at h

/-- At the maximum less one the mass is at least one. -/
theorem one_le_mass {x : Fin n → ℝ} {M : ℝ} (hM : ∃ i, x i = M) : 1 ≤ mass x (M - 1) := by
  obtain ⟨j, hj⟩ := hM
  have h := wt_le_mass x (M - 1) j
  have h1 : wt (x j) (M - 1) = 1 := by rw [hj, wt_of_ge (by linarith)]; ring
  linarith

/-- At the maximum less one the parts sum to at most the number of scores. -/
theorem part_le {x : Fin n → ℝ} {M : ℝ} (hx : ∀ i, x i ≤ M) : part x (M - 1) ≤ n := by
  have h : ∀ i ∈ (Finset.univ : Finset (Fin n)), max (x i - (M - 1)) 0 ≤ 1 := fun i _ =>
    max_le (by have := hx i; linarith) zero_le_one
  have := Finset.sum_le_card_nsmul _ _ _ h
  simpa [part] using this

/-! ## One step -/

/-- What the iteration carries: the threshold, the one before and its mass, the best and its mass. -/
structure State where
  t : ℝ
  tp : ℝ
  fp : ℝ
  tb : ℝ
  fb : ℝ

/-- The secant's divisor: the fall of the mass, or `c` where that is no larger than `c`. -/
def divisor (c d : ℝ) : ℝ := if c < |d| then d else c

/-- One trip for a row with maximum `M`. -/
def next (c M : ℝ) (f : ℝ → ℝ) (s : State) : State where
  t := min M (max (M - 1) (s.t + min 1 (max (-1) ((f s.t - 1) * (s.t - s.tp) / divisor c (s.fp - f s.t)))))
  tp := s.t
  fp := f s.t
  tb := if 1 ≤ f s.t ∧ s.tb < s.t then s.t else s.tb
  fb := if 1 ≤ f s.t ∧ (if 1 ≤ f s.t ∧ s.tb < s.t then s.t else s.tb) ≤ s.t then f s.t else s.fb

/-- The state the trips start from: the Newton step from the maximum less one. -/
def start (M : ℝ) (x : Fin n → ℝ) : State where
  t := M - 1 + (mass x (M - 1) - 1) / (2 * part x (M - 1))
  tp := M - 1
  fp := mass x (M - 1)
  tb := M - 1
  fb := mass x (M - 1)

/-- The excess still allowed: the secant's slope `m` is at least two, at most `m₀`, and the excess at the
last threshold is `m` times the last step, and `m` times the excess is at most `B`. -/
structure Live (x : Fin n → ℝ) (M m₀ B : ℝ) (s : State) : Prop where
  tb_eq : s.tb = s.tp
  fp_eq : s.fp = mass x s.tp
  low : M - 1 ≤ s.tp
  step : s.tp ≤ s.t
  enough : 1 ≤ mass x s.t
  slope : ∃ m, 2 ≤ m ∧ m ≤ m₀ ∧ mass x s.tp - 1 = m * (s.t - s.tp) ∧ (mass x s.tp - 1) * m ≤ B

/-- What every state has: the best threshold's mass is the one carried, it is at least one, and either the
excess is at most `ε` or it is as `Live` says. -/
structure Inv (x : Fin n → ℝ) (M m₀ ε B : ℝ) (s : State) : Prop where
  fb_eq : s.fb = mass x s.tb
  fb_ge : 1 ≤ s.fb
  tb_ge : M - 1 ≤ s.tb
  small : s.fb ≤ 1 + ε ∨ Live x M m₀ B s

/-- The Newton step starts the iteration. -/
theorem start_inv {x : Fin n → ℝ} {M m₀ ε : ℝ} (hx : ∀ i, x i ≤ M) (hM : ∃ i, x i = M) (hm : 2 * part x (M - 1) ≤ m₀) :
    Inv x M m₀ ε ((mass x (M - 1) - 1) * (2 * part x (M - 1))) (start M x) := by
  have h1 := one_le_mass hM
  have h2 : 1 ≤ part x (M - 1) := h1.trans (mass_le_part hx le_rfl)
  have h3 : 0 < 2 * part x (M - 1) := by linarith
  refine ⟨rfl, h1, le_rfl, Or.inr ⟨rfl, rfl, le_rfl, ?_, ?_, 2 * part x (M - 1), by linarith, hm, ?_, le_rfl⟩⟩
  · show M - 1 ≤ M - 1 + (mass x (M - 1) - 1) / (2 * part x (M - 1))
    have := div_nonneg (sub_nonneg.mpr h1) h3.le
    linarith
  · have := mass_tangent x (M - 1) (start M x).t
    refine le_trans (le_of_eq ?_) this
    simp only [start]
    field_simp
    ring
  · show mass x (M - 1) - 1 = 2 * part x (M - 1) * (M - 1 + (mass x (M - 1) - 1) / (2 * part x (M - 1)) - (M - 1))
    field_simp
    ring

/-- The best threshold's mass stays the one carried, and never falls below one nor rises. -/
theorem next_best {x : Fin n → ℝ} {c M : ℝ} {s : State} (hfb : s.fb = mass x s.tb) (h1 : 1 ≤ s.fb) (hlow : M - 1 ≤ s.tb) :
    (next c M (mass x) s).fb = mass x (next c M (mass x) s).tb ∧ 1 ≤ (next c M (mass x) s).fb
      ∧ (next c M (mass x) s).fb ≤ s.fb ∧ M - 1 ≤ (next c M (mass x) s).tb := by
  simp only [next]
  by_cases hge : 1 ≤ mass x s.t
  · by_cases hlt : s.tb < s.t
    · simp only [hge, hlt, and_self, if_true, le_refl]
      exact ⟨trivial, trivial, hfb ▸ mass_anti x hlt.le, by linarith⟩
    · by_cases heq : s.tb = s.t
      · simp only [hge, heq, lt_irrefl, and_false, if_false, le_refl, and_self, if_true, true_and]
        refine ⟨?_, by linarith⟩
        rw [hfb, heq]
      · have hn : ¬ s.tb ≤ s.t := fun h => hlt (lt_of_le_of_ne h heq)
        simp only [hge, hlt, hn, and_false, if_false, le_refl]
        exact ⟨hfb, h1, trivial, hlow⟩
  · simp only [hge, false_and, if_false, le_refl]
    exact ⟨hfb, h1, trivial, hlow⟩

/-- One trip keeps the invariant, and quarters what it allows. -/
theorem next_inv {x : Fin n → ℝ} {c M m₀ ε B : ℝ} (hx : ∀ i, x i ≤ M) (hc : 0 < c) (hε : m₀ * c ≤ 2 * ε)
    {s : State} (h : Inv x M m₀ ε B s) : Inv x M m₀ ε (B / 4) (next c M (mass x) s) := by
  obtain ⟨b1, b2, b3, b4⟩ := next_best (c := c) (M := M) h.fb_eq h.fb_ge h.tb_ge
  refine ⟨b1, b2, b4, ?_⟩
  rcases h.small with hs | hl
  · exact Or.inl (b3.trans hs)
  obtain ⟨htb, hfp, hlow, hstep, hen, m, hm2, hm0, hme, hmB⟩ := hl
  -- the masses at the last two thresholds, and the fall between them
  set F := mass x s.t with hF
  set G := mass x s.tp with hG
  have hpart : 1 ≤ part x s.t := hen.trans (mass_le_part hx (hlow.trans hstep))
  have htan : F + 2 * part x s.t * (s.t - s.tp) ≤ G := by
    have := mass_tangent x s.t s.tp
    rw [← hF, ← hG] at this; linarith
  have hΔ : 0 ≤ s.t - s.tp := by linarith
  have hdf : 2 * (s.t - s.tp) ≤ G - F := by nlinarith
  -- the best threshold is the last one
  have hbest : (next c M (mass x) s).tb = s.t := by
    simp only [next, ← hF, hen, true_and]
    split_ifs with hlt
    · rfl
    · exact le_antisymm (by rw [htb]; exact hstep) (not_lt.mp hlt)
  by_cases hsmall : G - F ≤ c
  · left
    rw [b1, hbest, ← hF]
    have h1 : m * (s.t - s.tp) ≤ m₀ * (c / 2) :=
      mul_le_mul hm0 (by linarith) hΔ (by linarith)
    nlinarith
  · right
    push Not at hsmall
    have hd0 : 0 < G - F := hc.trans hsmall
    have hΔ0 : 0 < s.t - s.tp := by
      rcases hΔ.lt_or_eq with h' | h'
      · exact h'
      · exfalso
        have : s.t = s.tp := by linarith
        rw [hF, hG, this] at hd0; linarith
    -- the raw secant step
    have hdiv : divisor c (s.fp - F) = G - F := by
      rw [hfp, divisor, if_pos (by rw [abs_of_pos hd0]; exact hsmall)]
    set raw := (F - 1) * (s.t - s.tp) / (G - F) with hraw
    have hraw0 : 0 ≤ raw := div_nonneg (mul_nonneg (by linarith) hΔ) hd0.le
    have hrawe : raw * (G - F) = (F - 1) * (s.t - s.tp) := div_mul_cancel₀ _ hd0.ne'
    have hen' : 1 ≤ mass x (s.t + raw) := by
      have h1 := mass_tangent x s.t (s.t + raw)
      rw [← hF, add_sub_cancel_left] at h1
      have h2 : 2 * part x s.t * raw ≤ F - 1 := by
        have h3 : 2 * part x s.t * raw * (s.t - s.tp) ≤ (F - 1) * (s.t - s.tp) := by
          rw [← hrawe]; nlinarith
        exact le_of_mul_le_mul_right h3 hΔ0
      linarith
    have hltM := lt_max hx hen'
    have hnext : (next c M (mass x) s).t = s.t + raw := by
      simp only [next, ← hF, hdiv, ← hraw]
      have e1 : max (-1) raw = raw := max_eq_right (by linarith)
      have e2 : min 1 raw = raw := min_eq_right (by linarith)
      have e3 : max (M - 1) (s.t + raw) = s.t + raw := max_eq_right (by linarith)
      rw [e1, e2, e3, min_eq_right hltM.le]
    have htp : (next c M (mass x) s).tp = s.t := rfl
    have hfp' : (next c M (mass x) s).fp = F := rfl
    refine ⟨by rw [hbest, htp], by rw [hfp', htp], by rw [htp]; linarith, by rw [hnext, htp]; linarith, by rw [hnext]; exact hen',
      (G - F) / (s.t - s.tp), ?_, ?_, ?_, ?_⟩
    · rw [le_div_iff₀ hΔ0]; linarith
    · refine le_trans ?_ hm0
      rw [div_le_iff₀ hΔ0]; linarith
    · rw [hnext, htp, ← hF, add_sub_cancel_left]
      rw [div_mul_eq_mul_div, eq_div_iff hΔ0.ne']; linarith
    · rw [htp, ← hF, ← mul_div_assoc, div_le_iff₀ hΔ0]
      have h1 : (F - 1) * (G - F) ≤ (G - 1) * (G - 1) / 4 := by nlinarith [sq_nonneg (2 * (F - 1) - (G - 1))]
      have h2 : (G - 1) * (G - 1) = (G - 1) * m * (s.t - s.tp) := by
        rw [mul_assoc, ← hme]
      rw [h2] at h1
      have h3 : (G - 1) * m * (s.t - s.tp) ≤ B * (s.t - s.tp) := mul_le_mul_of_nonneg_right hmB hΔ
      linarith

/-- What six trips leave: the best threshold's mass is the one carried, at least one, and no more above one than
a 4096th of the excess at the start times the parts there, or `ε`. -/
theorem six_trips {x : Fin n → ℝ} {c M m₀ ε : ℝ} (hx : ∀ i, x i ≤ M) (hM : ∃ i, x i = M) (hc : 0 < c)
    (hm : 2 * part x (M - 1) ≤ m₀) (hε : m₀ * c ≤ 2 * ε) (hε0 : 0 ≤ ε) :
    ((next c M (mass x))^[6] (start M x)).fb = mass x ((next c M (mass x))^[6] (start M x)).tb
      ∧ 1 ≤ ((next c M (mass x))^[6] (start M x)).fb
      ∧ M - 1 ≤ ((next c M (mass x))^[6] (start M x)).tb
      ∧ ((next c M (mass x))^[6] (start M x)).fb - 1 ≤ (mass x (M - 1) - 1) * part x (M - 1) / 4096 + ε := by
  have hall : ∀ k : ℕ, Inv x M m₀ ε ((mass x (M - 1) - 1) * (2 * part x (M - 1)) / 4 ^ k) ((next c M (mass x))^[k] (start M x)) := by
    intro k
    induction k with
    | zero => simpa using start_inv (ε := ε) hx hM hm
    | succ k ih =>
      rw [Function.iterate_succ_apply', pow_succ, ← div_div]
      exact next_inv hx hc hε ih
  obtain ⟨h1, h2, h3, h4⟩ := hall 6
  have hpos : 0 ≤ (mass x (M - 1) - 1) * part x (M - 1) :=
    mul_nonneg (sub_nonneg.mpr (one_le_mass hM)) (Finset.sum_nonneg fun i _ => le_max_right _ _)
  refine ⟨h1, h2, h3, ?_⟩
  rcases h4 with h4 | ⟨htb, _, _, _, _, m, hm2, _, _, hmB⟩
  · linarith
  · rw [h1, htb]
    have h5 : 1 ≤ mass x ((next c M (mass x))^[6] (start M x)).tp := by rw [← htb, ← h1]; exact h2
    nlinarith

end Cert.Proof.Secant

end
-- ==== Proof.Row.lean ====
module

public import Idealize.ShloMosaic.PureOps.Ideal
public import proofs.«01_k».proof.Proof.Secant

@[expose] public section

noncomputable section

/-! # The kernel's arithmetic on one row, over the extended reals

What one row of the kernel goes through, as functions of the row's 32768 extended real scores, and what these
functions are where every score is a real number: the real iteration of `Proof/Secant.lean`. -/

namespace Cert.Proof.Row

open Finset
open Idealize.ShloMosaic (Ideal)

variable {n : ℕ}

/-- By how much a score exceeds a threshold, never below zero. -/
def gap (t a : EReal) : EReal := max (a - t) 0

/-- The sum of the squared excesses over a threshold. -/
def mass (x : Fin n → EReal) (t : EReal) : EReal := ∑ i, gap t (x i) * gap t (x i)

/-- The sum of the excesses over a threshold. -/
def part (x : Fin n → EReal) (t : EReal) : EReal := ∑ i, gap t (x i)

/-- The row's maximum. -/
def top (x : Fin n → EReal) : EReal := univ.sup x

/-- The extended real of the single-precision word of 1e-30. -/
def tiny : EReal := Ideal.ofBits .f32 0x0DA24260#32

/-- The extended real of the single-precision word of 1e-12. -/
def small : EReal := Ideal.ofBits .f32 0x2B8CBCCC#32

/-- The threshold, the one before it, the mass at the one before it, the best threshold and its mass. -/
@[ext] structure State where
  t : EReal
  tp : EReal
  fp : EReal
  tb : EReal
  fb : EReal

/-- The next threshold: a secant step of at most one, kept between the maximum less one and the maximum. -/
def secant (m f t tp fp : EReal) : EReal :=
  min m (max (m - 1) (t + min 1 (max (-1)
    (Ideal.div ((f - 1) * (t - tp)) (if tiny < max (fp - f) (-(fp - f)) then fp - f else tiny)))))

/-- The next best threshold. -/
def bestT (f t tb : EReal) : EReal := if 1 ≤ f ∧ tb < t then t else tb

/-- The next best mass. -/
def bestF (f t tb fb : EReal) : EReal := if 1 ≤ f ∧ bestT f t tb ≤ t then f else fb

/-- One trip of the iteration. -/
def next (m : EReal) (f : EReal → EReal) (s : State) : State where
  t := secant m (f s.t) s.t s.tp s.fp
  tp := s.t
  fp := f s.t
  tb := bestT (f s.t) s.t s.tb
  fb := bestF (f s.t) s.t s.tb s.fb

/-- Where the iteration starts: the Newton step from the maximum less one. -/
def start (m : EReal) (x : Fin n → EReal) : State where
  t := m - 1 + Ideal.div (mass x (m - 1) - 1) (2 * max (part x (m - 1)) tiny)
  tp := m - 1
  fp := mass x (m - 1)
  tb := m - 1
  fb := mass x (m - 1)

/-- The state after the six trips. -/
def final (x : Fin n → EReal) : State := (next (top x) (mass x))^[6] (start (top x) x)

/-- The row's result. -/
def out (x : Fin n → EReal) (i : Fin n) : EReal :=
  gap (final x).tb (x i) * gap (final x).tb (x i) * Ideal.div 1 (max (final x).fb small)

/-! ## Words -/

theorem word_zero : Ideal.ofBits .f32 0x00000000#32 = 0 := by
  simp [Ideal.ofBits, Ideal.ieee, -EReal.coe_mul]
theorem word_one : Ideal.ofBits .f32 0x3F800000#32 = 1 := by
  simp [Ideal.ofBits, Ideal.ieee, -EReal.coe_mul]; norm_num
theorem word_two : Ideal.ofBits .f32 0x40000000#32 = 2 := by
  simp [Ideal.ofBits, Ideal.ieee, -EReal.coe_mul]; norm_num; rfl
theorem word_neg_one : Ideal.ofBits .f32 0xBF800000#32 = -1 := by
  simp [Ideal.ofBits, Ideal.ieee, -EReal.coe_mul]; norm_num
theorem word_bot : Ideal.ofBits .f32 0xFF800000#32 = ⊥ := by
  simp [Ideal.ofBits, Ideal.ieee]

/-- The real behind `tiny`. -/
def tinyR : ℝ := 10633824 * 2 ^ (-123 : ℤ)

/-- The real behind `small`. -/
def smallR : ℝ := 9223372 * 2 ^ (-63 : ℤ)

theorem tiny_eq : tiny = (tinyR : EReal) := by
  unfold tiny tinyR
  simp [Ideal.ofBits, Ideal.ieee, -EReal.coe_mul]
theorem small_eq : small = (smallR : EReal) := by
  unfold small smallR
  simp [Ideal.ofBits, Ideal.ieee, -EReal.coe_mul]

theorem tinyR_pos : 0 < tinyR := by unfold tinyR; positivity
theorem tinyR_le : 65536 * tinyR ≤ 2 * (4 * 10 ^ (-26 : ℤ)) := by unfold tinyR; norm_num
theorem tinyR_le_one : tinyR ≤ 1 := by unfold tinyR; norm_num
theorem smallR_le_one : smallR ≤ 1 := by unfold smallR; norm_num

/-! ## Rows of real scores -/

/-- A quotient of reals by a real other than zero. -/
theorem div_coe (a : ℝ) {b : ℝ} (hb : b ≠ 0) : Ideal.div (a : EReal) (b : EReal) = ((a / b : ℝ) : EReal) := by
  rw [Ideal.div_coe hb, ← EReal.coe_mul, mul_one_div]

theorem coe_sum (f : Fin n → ℝ) : ∑ i, ((f i : ℝ) : EReal) = ((∑ i, f i : ℝ) : EReal) := by
  induction (univ : Finset (Fin n)) using Finset.induction_on with
  | empty => simp
  | insert a s ha ih => rw [sum_insert ha, sum_insert ha, ih, EReal.coe_add]

theorem coe_max (a b : ℝ) : max (a : EReal) (b : EReal) = ((max a b : ℝ) : EReal) :=
  (EReal.coe_strictMono.monotone.map_max).symm
theorem coe_min (a b : ℝ) : min (a : EReal) (b : EReal) = ((min a b : ℝ) : EReal) :=
  (EReal.coe_strictMono.monotone.map_min).symm

/-- A choice between two reals, by conditions that agree. -/
theorem ite_coe {p q : Prop} [Decidable p] [Decidable q] (h : p ↔ q) (a b : ℝ) :
    (if p then (a : EReal) else b) = ((if q then a else b : ℝ) : EReal) := by
  by_cases hp : p
  · rw [if_pos hp, if_pos (h.mp hp)]
  · rw [if_neg hp, if_neg fun hq => hp (h.mpr hq)]

theorem one_le_coe (a : ℝ) : (1 : EReal) ≤ a ↔ 1 ≤ a := by rw [← EReal.coe_one, EReal.coe_le_coe_iff]

theorem gap_coe (t a : ℝ) : gap t a = ((max (a - t) 0 : ℝ) : EReal) := by
  unfold gap
  rw [← EReal.coe_sub, ← EReal.coe_zero, coe_max]

theorem mass_coe (x : Fin n → ℝ) (t : ℝ) : mass (fun i => (x i : EReal)) t = ((Threshold.mass x t : ℝ) : EReal) := by
  unfold mass Threshold.mass
  rw [← coe_sum]
  exact sum_congr rfl fun i _ => by rw [gap_coe, ← EReal.coe_mul]; rfl

theorem part_coe (x : Fin n → ℝ) (t : ℝ) : part (fun i => (x i : EReal)) t = ((Threshold.part x t : ℝ) : EReal) := by
  unfold part Threshold.part
  rw [← coe_sum]
  exact sum_congr rfl fun i _ => gap_coe _ _

theorem top_coe {x : Fin n → ℝ} {M : ℝ} (hx : ∀ i, x i ≤ M) (hM : ∃ i, x i = M) : top (fun i => (x i : EReal)) = (M : EReal) := by
  obtain ⟨i, hi⟩ := hM
  refine le_antisymm (Finset.sup_le fun j _ => EReal.coe_le_coe_iff.mpr (hx j)) ?_
  rw [← hi]
  exact Finset.le_sup (f := fun i => (x i : EReal)) (mem_univ i)

/-- A state of reals as a state of extended reals. -/
def lift (s : Secant.State) : State := ⟨s.t, s.tp, s.fp, s.tb, s.fb⟩

theorem secant_coe (M f t tp fp : ℝ) :
    secant M f t tp fp = ((min M (max (M - 1) (t + min 1 (max (-1) ((f - 1) * (t - tp) / Secant.divisor tinyR (fp - f))))) : ℝ) : EReal) := by
  have hd : (if tiny < max ((fp : EReal) - f) (-((fp : EReal) - f)) then (fp : EReal) - f else tiny)
      = ((Secant.divisor tinyR (fp - f) : ℝ) : EReal) := by
    unfold Secant.divisor
    rw [tiny_eq, ← EReal.coe_sub, ← EReal.coe_neg, coe_max, abs_eq_max_neg]
    by_cases h : tinyR < max (fp - f) (-(fp - f))
    · rw [if_pos h, if_pos (EReal.coe_lt_coe_iff.mpr h)]
    · rw [if_neg h, if_neg (fun h' => h (EReal.coe_lt_coe_iff.mp h'))]
  have hne : Secant.divisor tinyR (fp - f) ≠ 0 := by
    unfold Secant.divisor
    have := tinyR_pos
    split_ifs with h
    · intro h0; rw [h0, abs_zero] at h; linarith
    · exact this.ne'
  unfold secant
  rw [hd, ← EReal.coe_one, ← EReal.coe_sub f, ← EReal.coe_sub t, ← EReal.coe_mul, div_coe _ hne, ← EReal.coe_neg, coe_max, coe_min,
    ← EReal.coe_add, ← EReal.coe_sub, coe_max, coe_min]

theorem next_coe (x : Fin n → ℝ) (M : ℝ) (s : Secant.State) :
    next M (mass fun i => (x i : EReal)) (lift s) = lift (Secant.next tinyR M (Threshold.mass x) s) := by
  have hb : bestT (Threshold.mass x s.t : ℝ) s.t s.tb
      = (((if 1 ≤ Threshold.mass x s.t ∧ s.tb < s.t then s.t else s.tb) : ℝ) : EReal) := by
    exact ite_coe (and_congr (one_le_coe _) EReal.coe_lt_coe_iff) _ _
  unfold next lift Secant.next
  simp only [mass_coe]
  rw [secant_coe, hb]
  congr 1
  unfold bestF
  rw [hb]
  exact ite_coe (and_congr (one_le_coe _) EReal.coe_le_coe_iff) _ _

theorem start_coe {x : Fin n → ℝ} {M : ℝ} (hx : ∀ i, x i ≤ M) (hM : ∃ i, x i = M) :
    start M (fun i => (x i : EReal)) = lift (Secant.start M x) := by
  have h1 : 1 ≤ Threshold.part x (M - 1) := (Secant.one_le_mass hM).trans (Secant.mass_le_part hx le_rfl)
  have h2 : max (Threshold.part x (M - 1)) tinyR = Threshold.part x (M - 1) := max_eq_left (tinyR_le_one.trans h1)
  have e2 : (2 : EReal) = ((2 : ℝ) : EReal) := rfl
  unfold start lift Secant.start
  rw [← EReal.coe_one, ← EReal.coe_sub, mass_coe, part_coe, tiny_eq, coe_max, h2, e2, ← EReal.coe_mul, ← EReal.coe_sub,
    div_coe _ (by linarith), ← EReal.coe_add]

/-- The state after the six trips, on a row of real scores. -/
theorem final_coe {x : Fin n → ℝ} {M : ℝ} (hx : ∀ i, x i ≤ M) (hM : ∃ i, x i = M) :
    final (fun i => (x i : EReal)) = lift ((Secant.next tinyR M (Threshold.mass x))^[6] (Secant.start M x)) := by
  unfold final
  rw [top_coe hx hM, start_coe hx hM]
  generalize Secant.start M x = s
  have : ∀ k : ℕ, (next M (mass fun i => (x i : EReal)))^[k] (lift s) = lift ((Secant.next tinyR M (Threshold.mass x))^[k] s) := by
    intro k
    induction k with
    | zero => rfl
    | succ k ih => rw [Function.iterate_succ_apply', ih, next_coe, Function.iterate_succ_apply']
  exact this 6

/-- THE ROW'S RESULT on a row of real scores: the weights over a threshold, divided by their sum, which is at least
one and exceeds one by no more than a 4096th of the first excess times the first parts, and a constant. -/
theorem out_coe {x : Fin n → ℝ} {M : ℝ} (hn : n ≤ 32768) (hx : ∀ i, x i ≤ M) (hM : ∃ i, x i = M) :
    ∃ t : ℝ, M - 1 ≤ t ∧ 1 ≤ Threshold.mass x t
      ∧ Threshold.mass x t - 1 ≤ (Threshold.mass x (M - 1) - 1) * Threshold.part x (M - 1) / 4096 + 4 * 10 ^ (-26 : ℤ)
      ∧ (final (fun i => (x i : EReal))).tb = (t : EReal)
      ∧ ∀ i, out (fun i => (x i : EReal)) i = ((Threshold.wt (x i) t / Threshold.mass x t : ℝ) : EReal) := by
  have hm : 2 * Threshold.part x (M - 1) ≤ 65536 := by
    have h1 := Secant.part_le hx
    have h2 : (n : ℝ) ≤ 32768 := by exact_mod_cast hn
    linarith
  obtain ⟨h1, h2, h3, h4⟩ := Secant.six_trips (c := tinyR) (ε := 4 * 10 ^ (-26 : ℤ)) hx hM tinyR_pos hm tinyR_le (by positivity)
  have hf := final_coe hx hM
  set s := (Secant.next tinyR M (Threshold.mass x))^[6] (Secant.start M x)
  rw [h1] at h2 h4
  refine ⟨s.tb, h3, h2, h4, by rw [hf]; rfl, fun i => ?_⟩
  unfold out
  rw [hf]
  show gap (s.tb : EReal) (x i) * gap (s.tb : EReal) (x i) * Ideal.div 1 (max (s.fb : EReal) small) = _
  rw [small_eq, coe_max, h1, max_eq_left (smallR_le_one.trans h2), ← EReal.coe_one, div_coe _ (by linarith), gap_coe, ← EReal.coe_mul,
    ← EReal.coe_mul, mul_one_div]
  rfl

end Cert.Proof.Row

end
-- ==== Proof.Kernel.lean ====
/-
  The kernel's block, row by row.

  Over the extended reals each sweep of the body (`Proof/Model.lean`) is a sum or a maximum over the row's 32768
  scores, whatever the order of its chunks and lanes; so what the body leaves in row `r` of a block is the row
  function of `Proof/Row.lean` of row `r` of the block it reads (`block_row`).
-/
module

public import proofs.«01_k».proof.Proof.Model
public import proofs.«01_k».proof.Proof.Row
public import Idealize.ShloMosaic.Lib.ValueIdx
public import Idealize.ShloMosaic.Lib.ValueLayoutCasts
public import Idealize.ShloMosaic.PureOps.Ideal.Laws

@[expose] public section

noncomputable section

namespace Cert.Proof.Kernel

open Cert.KernelIdeal Cert.KernelIdeal.Gen Cert.Proof.Model
open Idealize.ShloMosaic Idealize.ShloMosaic.TcCoe Idealize.ShloMosaic.ValueIdx
open Finset

/-- The column at which chunk `j` keeps its lane `y`. -/
def at_ (j : Fin 64) (y : Fin 512) : Fin 32768 := ⟨512 * j.val + y.val, by omega⟩

/-- Row `r` of a block. -/
def row (x0 : Vec Ideal S32x32768 .f32) (r : Fin 32) : Fin 32768 → EReal := fun i => x0 (ix2 r i)

theorem idx_eq (j : Fin 64) (r : Fin 32) (y : Fin 512) :
    (Rect.unit (s := S32x32768) ![0, 512 * j.val] S32x512.size (inb j)).idx (ix2 r y) = ix2 r (at_ j y) := by
  funext a; apply Fin.ext
  rw [Rect.idx_unit_val]
  match a with
  | ⟨0, _⟩ => show 0 + r.val = r.val; omega
  | ⟨1, _⟩ => rfl

theorem chunk_apply (x0 : Vec Ideal S32x32768 .f32) (j : Fin 64) (r : Fin 32) (y : Fin 512) :
    chunk x0 j (ix2 r y) = row x0 r (at_ j y) := congrArg x0 (idx_eq j r y)

theorem spread_apply (t : Col Ideal) (r : Fin 32) (y : Fin 512) : spread t (ix2 r y) = t (ix2 r 0) := by
  show broadcastTo S32x512 t broadcasts_S32x1_S32x512 (ix2 r y) + Ideal.ofBits .f32 0x00000000#32 = _
  rw [Row.word_zero, add_zero]
  exact broadcastTo_apply t _ _ (ix2 r 0) fun a => by match a with | ⟨0, _⟩ => rfl | ⟨1, _⟩ => rfl

theorem gap_apply (tb v : Chunk Ideal) (y : S32x512.Idx) : gap tb v y = Row.gap (tb y) (v y) := by
  show max (v y - tb y) (Ideal.ofBits .f32 0x00000000#32) = _
  rw [Row.word_zero]; rfl

/-- The tree leaves in a lane the sum of four. -/
theorem tree_apply (u : Chunk Ideal) (r : Fin 32) (l : Fin 128) :
    tree u (ix2 r l) = (u (ix2 r ⟨l.val, by omega⟩) + u (ix2 r ⟨256 + l.val, by omega⟩))
      + (u (ix2 r ⟨128 + l.val, by omega⟩) + u (ix2 r ⟨384 + l.val, by omega⟩)) := by
  have h512 (o : ℕ) (ho : S32x512.Slices ![0, o] S32x256) (k : Fin 256) (k' : Fin 512) (hk : k'.val = o + k.val) :
      extractStridedSlice S32x256 ![0, o] u ho (ix2 r k) = u (ix2 r k') :=
    extractStridedSlice_apply (s := S32x512) (t := S32x256) ![0, o] u ho (ix2 r k) (ix2 r k') fun a => by
      match a with | ⟨0, _⟩ => exact (Nat.zero_add _).symm | ⟨1, _⟩ => exact hk
  have h256 (v : FVec Ideal S32x256 .f32) (o : ℕ) (ho : S32x256.Slices ![0, o] S32x128) (k : Fin 128) (k' : Fin 256)
      (hk : k'.val = o + k.val) : extractStridedSlice S32x128 ![0, o] v ho (ix2 r k) = v (ix2 r k') :=
    extractStridedSlice_apply (s := S32x256) (t := S32x128) ![0, o] v ho (ix2 r k) (ix2 r k') fun a => by
      match a with | ⟨0, _⟩ => exact (Nat.zero_add _).symm | ⟨1, _⟩ => exact hk
  unfold tree
  refine congrArg₂ (· + ·) ?_ ?_
  · refine (h256 _ 0 _ l ⟨l.val, by omega⟩ (Nat.zero_add _).symm).trans (congrArg₂ (· + ·) ?_ ?_)
    · exact h512 0 _ _ _ (Nat.zero_add _).symm
    · exact h512 256 _ _ _ rfl
  · refine (h256 _ 128 _ l ⟨128 + l.val, by omega⟩ rfl).trans (congrArg₂ (· + ·) ?_ ?_)
    · exact h512 0 _ _ _ (Nat.zero_add _).symm
    · exact h512 256 _ _ _ (by show 384 + l.val = 256 + (128 + l.val); omega)

/-- Four lanes of every chunk, all lanes: every column once. -/
theorem sum_columns (f : Fin 32768 → EReal) :
    ∑ l : Fin 128, ∑ j : Fin 64, ((f (at_ j ⟨l.val, by omega⟩) + f (at_ j ⟨256 + l.val, by omega⟩))
      + (f (at_ j ⟨128 + l.val, by omega⟩) + f (at_ j ⟨384 + l.val, by omega⟩))) = ∑ i, f i := by
  have e1 : ∑ i, f i = ∑ j : Fin 64, ∑ y : Fin 512, f (at_ j y) := by
    rw [← Equiv.sum_comp (finProdFinEquiv (m := 64) (n := 512)) f, Fintype.sum_prod_type]
    exact sum_congr rfl fun j _ => sum_congr rfl fun y _ => congrArg f (Fin.ext (Nat.add_comm _ _))
  have e2 : ∀ g : Fin 512 → EReal, ∑ y, g y = ∑ l : Fin 128, ((g ⟨l.val, by omega⟩ + g ⟨256 + l.val, by omega⟩)
      + (g ⟨128 + l.val, by omega⟩ + g ⟨384 + l.val, by omega⟩)) := by
    intro g
    rw [← Equiv.sum_comp (finProdFinEquiv (m := 4) (n := 128)) g, Fintype.sum_prod_type, Fin.sum_univ_four, ← sum_add_distrib,
      ← sum_add_distrib, ← sum_add_distrib]
    refine sum_congr rfl fun l _ => ?_
    have q0 : finProdFinEquiv (m := 4) (n := 128) (0, l) = (⟨l.val, by omega⟩ : Fin 512) := Fin.ext (by show l.val + 128 * 0 = l.val; omega)
    have q1 : finProdFinEquiv (m := 4) (n := 128) (1, l) = (⟨128 + l.val, by omega⟩ : Fin 512) := Fin.ext (by show l.val + 128 * 1 = 128 + l.val; omega)
    have q2 : finProdFinEquiv (m := 4) (n := 128) (2, l) = (⟨256 + l.val, by omega⟩ : Fin 512) := Fin.ext (by show l.val + 128 * 2 = 256 + l.val; omega)
    have q3 : finProdFinEquiv (m := 4) (n := 128) (3, l) = (⟨384 + l.val, by omega⟩ : Fin 512) := Fin.ext (by show l.val + 128 * 3 = 384 + l.val; omega)
    rw [q0, q1, q2, q3]
    abel
  rw [e1, sum_comm]
  exact sum_congr rfl fun j _ => (e2 fun y => f (at_ j y)).symm

theorem col_apply (a : FVec Ideal S32 .f32) (r : Fin 32) : col a (ix2 r 0) = a (ix1 r) := shapeCast_a_a1_apply a _ r 0

theorem lift128 (r : Fin 32) (l : Fin 128) : reduces_S32x128_S32.lift (ix1 r) l = ix2 r l := by
  funext a; match a with | ⟨0, _⟩ => rfl | ⟨1, _⟩ => rfl

theorem lift512 (r : Fin 32) (l : Fin 512) : reduces_S32x512_S32.lift (ix1 r) l = ix2 r l := by
  funext a; match a with | ⟨0, _⟩ => rfl | ⟨1, _⟩ => rfl

theorem rowSum_apply (a : FVec Ideal S32x128 .f32) (r : Fin 32) : rowSum a (ix1 r) = ∑ l : Fin 128, a (ix2 r l) := by
  refine (Ideal.multiReduction_add_single a _ _ _ _ (ix1 r)).trans ?_
  exact sum_congr rfl fun l _ => congrArg a (lift128 r l)

/-- The running lane sums are sums over the chunks so far. -/
theorem sum1_apply (ld : Fin 64 → Chunk Ideal) (tb : Chunk Ideal) (y : S32x128.Idx) : ∀ (k : ℕ) (h : k ≤ 64),
    sum1 ld tb k h y = ∑ j : Fin k, tree (gap tb (ld ⟨j.val, by omega⟩)) y
  | 0, _ => Row.word_zero
  | k + 1, h => by
    rw [Fin.sum_univ_castSucc]
    exact congrArg (· + _) (sum1_apply ld tb y k (Nat.le_of_succ_le h))

theorem sum2_apply (ld : Fin 64 → Chunk Ideal) (tb : Chunk Ideal) (y : S32x128.Idx) : ∀ (k : ℕ) (h : k ≤ 64),
    sum2 ld tb k h y = ∑ j : Fin k, tree (mulf (gap tb (ld ⟨j.val, by omega⟩)) (gap tb (ld ⟨j.val, by omega⟩))) y
  | 0, _ => Row.word_zero
  | k + 1, h => by
    rw [Fin.sum_univ_castSucc]
    exact congrArg (· + _) (sum2_apply ld tb y k (Nat.le_of_succ_le h))

/-- The body's mass of a row is the row's mass. -/
theorem mass_apply (x0 : Vec Ideal S32x32768 .f32) (t : Col Ideal) (r : Fin 32) :
    mass (chunk x0) t (ix2 r 0) = Row.mass (row x0 r) (t (ix2 r 0)) := by
  unfold mass Row.mass
  rw [col_apply, rowSum_apply, ← sum_columns fun i => Row.gap (t (ix2 r 0)) (row x0 r i) * Row.gap (t (ix2 r 0)) (row x0 r i)]
  refine sum_congr rfl fun l _ => ?_
  rw [sum2_apply]
  refine sum_congr rfl fun j _ => ?_
  simp only [tree_apply, mulf_apply, gap_apply, spread_apply, chunk_apply]

/-- The body's part of a row is the row's part. -/
theorem part_apply (x0 : Vec Ideal S32x32768 .f32) (t : Col Ideal) (r : Fin 32) :
    part (chunk x0) t (ix2 r 0) = Row.part (row x0 r) (t (ix2 r 0)) := by
  unfold part Row.part
  rw [col_apply, rowSum_apply, ← sum_columns fun i => Row.gap (t (ix2 r 0)) (row x0 r i)]
  refine sum_congr rfl fun l _ => ?_
  rw [sum1_apply]
  refine sum_congr rfl fun j _ => ?_
  simp only [tree_apply, gap_apply, spread_apply, chunk_apply]

/-- The running lane maxima bound exactly what the chunks so far do. -/
theorem maxs_le (ld : Fin 64 → Chunk Ideal) (y : S32x512.Idx) (b : EReal) : ∀ (k : ℕ) (h : k < 64),
    maxs ld k h y ≤ b ↔ ∀ j : Fin 64, j.val ≤ k → ld j y ≤ b
  | 0, h => ⟨fun e j hj => by obtain rfl : j = ⟨0, h⟩ := Fin.ext (by simpa using hj); exact e, fun e => e ⟨0, h⟩ le_rfl⟩
  | k + 1, h => by
    have ih := maxs_le ld y b k (Nat.lt_of_succ_lt h)
    constructor
    · intro e j hj
      have e' := max_le_iff.mp (show max (maxs ld k (Nat.lt_of_succ_lt h) y) (ld ⟨k + 1, h⟩ y) ≤ b from e)
      rcases Nat.lt_or_ge k j.val with hk | hk
      · obtain rfl : j = ⟨k + 1, h⟩ := Fin.ext (by show j.val = k + 1; omega)
        exact e'.2
      · exact ih.mp e'.1 j hk
    · intro e
      exact max_le_iff.mpr ⟨ih.mpr fun j hj => e j (by omega), e ⟨k + 1, h⟩ le_rfl⟩

/-- The body's maximum of a row is the row's maximum. -/
theorem top_apply (x0 : Vec Ideal S32x32768 .f32) (r : Fin 32) : top (chunk x0) (ix2 r 0) = Row.top (row x0 r) := by
  unfold top Row.top
  rw [col_apply]
  refine (Ideal.multiReduction_maximumf_single _ _ _ _ _ (ix1 r)).trans ?_
  refine eq_of_forall_ge_iff fun b => ?_
  rw [Finset.fold_max_le, Finset.sup_le_iff]
  constructor
  · intro ⟨_, h⟩ i _
    have hj : i.val / 512 < 64 := by omega
    have hy : i.val % 512 < 512 := Nat.mod_lt _ (by omega)
    have h0 : maxs (chunk x0) 63 (by omega) (reduces_S32x512_S32.lift (ix1 r) (⟨i.val % 512, hy⟩ : Fin 512)) ≤ b :=
      h (⟨i.val % 512, hy⟩ : Fin 512) (mem_univ _)
    have h1 : maxs (chunk x0) 63 (by omega) (ix2 r ⟨i.val % 512, hy⟩) ≤ b := (lift512 r ⟨i.val % 512, hy⟩) ▸ h0
    have h2 := (maxs_le _ _ b 63 (by omega)).mp h1 ⟨i.val / 512, hj⟩ (by show i.val / 512 ≤ 63; omega)
    rw [chunk_apply] at h2
    have h3 : at_ ⟨i.val / 512, hj⟩ ⟨i.val % 512, Nat.mod_lt _ (by omega)⟩ = i := Fin.ext (by show 512 * (i.val / 512) + i.val % 512 = i.val; omega)
    rwa [h3] at h2
  · intro h
    refine ⟨?_, fun y _ => ?_⟩
    · show Ideal.ofBits .f32 0xFF800000#32 ≤ b
      rw [Row.word_bot]; exact bot_le
    · have h0 : ∀ y : Fin 512, maxs (chunk x0) 63 (by omega) (ix2 r y) ≤ b := fun y =>
        (maxs_le _ _ b 63 (by omega)).mpr fun j _ => by rw [chunk_apply]; exact h _ (mem_univ _)
      exact (congrArg (maxs (chunk x0) 63 (by omega)) (lift512 r y)).trans_le (h0 y)

/-! ## The iteration -/

/-- The carried columns at a row. -/
def stateAt (s : Col Ideal × Col Ideal × Col Ideal × Col Ideal × Col Ideal) (r : Fin 32) : Row.State :=
  ⟨s.1 (ix2 r 0), s.2.1 (ix2 r 0), s.2.2.1 (ix2 r 0), s.2.2.2.1 (ix2 r 0), s.2.2.2.2 (ix2 r 0)⟩

theorem select_both {p q : Prop} [Decidable p] [Decidable q] (a b : EReal) :
    Scalar.select (IntOp.andi (BitVec.ofBool (decide p)) (BitVec.ofBool (decide q))) a b = if p ∧ q then a else b := by
  by_cases hp : p <;> by_cases hq : q <;> simp [hp, hq, Scalar.select, IntOp.andi]

theorem select_one {p : Prop} [Decidable p] (a b : EReal) :
    Scalar.select (BitVec.ofBool (decide p)) a b = if p then a else b := by
  by_cases hp : p <;> simp [hp, Scalar.select]

theorem bestT_apply (f t tb : Col Ideal) (y : S32x1.Idx) : bestT f t tb y = Row.bestT (f y) (t y) (tb y) := by
  have h : bestT f t tb y = Scalar.select (IntOp.andi (BitVec.ofBool (decide (Ideal.ofBits .f32 0x3F800000#32 ≤ f y)))
      (BitVec.ofBool (decide (tb y < t y)))) (t y) (tb y) := rfl
  rw [h, select_both, Row.word_one]
  rfl

theorem bestF_apply (f t tb fb : Col Ideal) (y : S32x1.Idx) : bestF f t tb fb y = Row.bestF (f y) (t y) (tb y) (fb y) := by
  have h : bestF f t tb fb y = Scalar.select (IntOp.andi (BitVec.ofBool (decide (Ideal.ofBits .f32 0x3F800000#32 ≤ f y)))
      (BitVec.ofBool (decide (bestT f t tb y ≤ t y)))) (f y) (fb y) := rfl
  rw [h, select_both, Row.word_one, bestT_apply]
  rfl

theorem secant_apply (m f t tp fp : Col Ideal) (y : S32x1.Idx) :
    secant m f t tp fp y = Row.secant (m y) (f y) (t y) (tp y) (fp y) := by
  have h : secant m f t tp fp y = min (m y) (max (m y - Ideal.ofBits .f32 0x3F800000#32) (t y + min (Ideal.ofBits .f32 0x3F800000#32)
      (max (Ideal.ofBits .f32 0xBF800000#32) (Ideal.div ((f y - Ideal.ofBits .f32 0x3F800000#32) * (t y - tp y))
        (Scalar.select (BitVec.ofBool (decide (Row.tiny < max (fp y - f y) (-(fp y - f y))))) (fp y - f y) Row.tiny))))) := rfl
  rw [h, select_one, Row.word_one, Row.word_neg_one]
  rfl

/-- One trip at a row. -/
theorem trip_apply (x0 : Vec Ideal S32x32768 .f32) (m : Col Ideal) (s : Col Ideal × Col Ideal × Col Ideal × Col Ideal × Col Ideal)
    (r : Fin 32) : stateAt (trip (chunk x0) m s) r = Row.next (m (ix2 r 0)) (Row.mass (row x0 r)) (stateAt s r) := by
  unfold stateAt trip Row.next
  simp only [secant_apply, bestT_apply, bestF_apply, mass_apply]

theorem low_apply (m : Col Ideal) (y : S32x1.Idx) : low m y = m y - 1 := by
  show m y - Ideal.ofBits .f32 0x3F800000#32 = _
  rw [Row.word_one]

/-- The start at a row. -/
theorem start_apply (x0 : Vec Ideal S32x32768 .f32) (m : Col Ideal) (r : Fin 32) :
    stateAt (start (chunk x0) m) r = Row.start (m (ix2 r 0)) (row x0 r) := by
  have h : (start (chunk x0) m).1 (ix2 r 0) = low m (ix2 r 0) + Ideal.div (mass (chunk x0) (low m) (ix2 r 0) - Ideal.ofBits .f32 0x3F800000#32)
      (Ideal.ofBits .f32 0x40000000#32 * max (part (chunk x0) (low m) (ix2 r 0)) Row.tiny) := rfl
  unfold stateAt Row.start
  rw [h]
  unfold start
  simp only [mass_apply, part_apply, low_apply, Row.word_one, Row.word_two]

/-- The end at a row. -/
theorem final_apply (x0 : Vec Ideal S32x32768 .f32) (r : Fin 32) : stateAt (final (chunk x0)) r = Row.final (row x0 r) := by
  unfold final Row.final
  rw [← top_apply, ← start_apply]
  generalize start (chunk x0) (top (chunk x0)) = s
  have : ∀ k : ℕ, stateAt ((trip (chunk x0) (top (chunk x0)))^[k] s) r
      = (Row.next (top (chunk x0) (ix2 r 0)) (Row.mass (row x0 r)))^[k] (stateAt s r) := by
    intro k
    induction k with
    | zero => rfl
    | succ k ih => rw [Function.iterate_succ_apply', trip_apply, ih, Function.iterate_succ_apply']
  exact this 6

/-- WHAT THE BODY LEAVES in a block: each row's result. -/
theorem block_row (c : Dev nD) (i : grid0.Coords) (arg1 : Memref sig .tc .vmem S32x32768 .f32) (harg1 : arg1.IsWhole)
    (arg2 : Memref sig .tc .vmem S32x32768 .f32) (harg2 : arg2.IsWhole) (x0 : Vec Ideal S32x32768 .f32) (r : Fin 32) (k : Fin 32768) :
    out0_A_1 c i arg1 harg1 arg2 harg2 x0 (ix2 r k) = Row.out (row x0 r) k := by
  refine block_apply c i arg1 harg1 arg2 harg2 x0 (fun y => Row.out (row x0 (y 0)) (y 1)) (fun j y => ?_) (ix2 r k)
  obtain ⟨r', l, rfl⟩ : ∃ (r' : Fin 32) (l : Fin 512), y = ix2 r' l := ⟨y 0, y 1, eq_ix2 y⟩
  rw [idx_eq]
  show _ = Row.out (row x0 r') (at_ j l)
  have hf := final_apply x0 r'
  have hb : (final (chunk x0)).2.2.2.1 (ix2 r' 0) = (Row.final (row x0 r')).tb := congrArg Row.State.tb hf
  have hn : (final (chunk x0)).2.2.2.2 (ix2 r' 0) = (Row.final (row x0 r')).fb := congrArg Row.State.fb hf
  have h : ∀ (tau norm : Col Ideal) (v : Chunk Ideal), outChunk tau norm v (ix2 r' l)
      = gap (spread tau) v (ix2 r' l) * gap (spread tau) v (ix2 r' l)
        * spread (divf (const 0x3F800000#32) (maximumf norm (const 0x2B8CBCCC#32))) (ix2 r' l) := fun _ _ _ => rfl
  have h' : ∀ norm : Col Ideal, (divf (const 0x3F800000#32) (maximumf norm (const 0x2B8CBCCC#32)) : Col Ideal) (ix2 r' 0)
      = Ideal.div (Ideal.ofBits .f32 0x3F800000#32) (max (norm (ix2 r' 0)) Row.small) := fun _ => rfl
  rw [h, gap_apply, spread_apply, spread_apply, chunk_apply, h', hb, hn, Row.word_one]
  rfl

end Cert.Proof.Kernel

end
-- ==== Proof.Array.lean ====
/-
  The kernel's result array, row by row: every row of the result is the row function of `Proof/Row.lean` of the
  same row of the argument (`run_rows`).
-/
module

public import proofs.«01_k».proof.Proof.Kernel

@[expose] public section

noncomputable section

namespace Cert.Proof.Array

open Cert.KernelIdeal Cert.KernelIdeal.Gen
open Idealize.ShloMosaic Idealize.ShloMosaic.TcCoe Idealize.ShloMosaic.ValueIdx Idealize.SL.Sem

/-- A row of an array of scores. -/
def rowOf (x : Vec Ideal S128x32768 .f32) (r : Fin 128) : Fin 32768 → EReal := fun i => x (ix2 r i)

/-- Every row's result, as an array. -/
def result (x : Vec Ideal S128x32768 .f32) : Vec Ideal S128x32768 .f32 := fun y => Row.out (rowOf x (y 0)) (y 1)

variable (m : (ℓ : Loc nD τ sig) → Buf (Elt Ideal) ℓ) (ρ : Dev nD → PrngReg)

theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row `r` of block `t`. -/
def place (t : Fin cfg0.N) (r : Fin 32) : Fin 128 := ⟨32 * t.val + r.val, by
  have h : t.val < 4 := t.isLt
  omega⟩

theorem emb1 (t : Fin cfg0.N) (r : Fin 32) (k : Fin 32768) : ((cfg0.win 1).blk t).view.emb (ix2 r k) = ix2 (place t r) k := by
  obtain ⟨_, _, e0, e1⟩ := idx_facts t
  funext a; apply Fin.ext
  match a with
  | ⟨0, _⟩ => show win0_1.index t (0 : Fin 2) * 32 + 1 * r.val = 32 * t.val + r.val; omega
  | ⟨1, _⟩ => show win0_1.index t (1 : Fin 2) * 32768 + 1 * k.val = k.val; omega

theorem emb0 (t : Fin cfg0.N) (r : Fin 32) (k : Fin 32768) : ((cfg0.win 0).blk t).view.emb (ix2 r k) = ix2 (place t r) k := by
  obtain ⟨e0, e1, _, _⟩ := idx_facts t
  funext a; apply Fin.ext
  match a with
  | ⟨0, _⟩ => show win0_0.index t (0 : Fin 2) * 32 + 1 * r.val = 32 * t.val + r.val; omega
  | ⟨1, _⟩ => show win0_0.index t (1 : Fin 2) * 32768 + 1 * k.val = k.val; omega

/-- A row of the block a point reads is a row of the argument. -/
theorem row_iblk (c : Dev nD) (t : Fin cfg0.N) (r : Fin 32) :
    Kernel.row (iblk m c 0 t) r = rowOf (m ((c : Thread nD τ).loc main_arg0)) (place t r) := by
  funext k
  show V m c main_arg0 (((cfg0.win 0).blk t).view.emb (ix2 r k)) = _
  rw [emb0]
  rfl

set_option maxRecDepth 100000 in
/-- One element of the array after the run, by its block. -/
theorem final_at (c : Dev nD) (t : Fin cfg0.N) (r : Fin 32) (k : Fin 32768) :
    (dats m 0 c).arrAt 1 cfg0.N (ix2 (place t r) k) = Row.out (rowOf (m ((c : Thread nD τ).loc main_arg0)) (place t r)) k := by
  have b := congrFun (Cert.KernelIdeal.Value.blocks1 m c t (flush0_1 t)) (ix2 r k)
  rw [Cert.KernelIdeal.Value.flushed1_A] at b
  have b' : (dats m 0 c).arrAt 1 cfg0.N (((cfg0.win 1).blk t).view.emb (ix2 r k)) = _ := b
  rw [emb1] at b'
  refine b'.trans ?_
  refine (Kernel.block_row c (grid0.coords t) (ms0_0 t) (hs0_0 t) (ms0_1 t) (hs0_1 t) (iblk m c 0 t) r k).trans ?_
  rw [row_iblk]

/-- The array after the run. -/
theorem final_eq (c : Dev nD) : (dats m 0 c).arrAt 1 cfg0.N = result (m ((c : Thread nD τ).loc main_arg0)) := by
  funext y
  obtain ⟨R, k, rfl⟩ : ∃ (R : Fin 128) (k : Fin 32768), y = ix2 R k := ⟨y 0, y 1, eq_ix2 y⟩
  have ht : R.val / 32 < 4 := by omega
  have hp : place ⟨R.val / 32, ht⟩ ⟨R.val % 32, Nat.mod_lt _ (by omega)⟩ = R :=
    Fin.ext (by show 32 * (R.val / 32) + R.val % 32 = R.val; omega)
  have e := final_at m c ⟨R.val / 32, ht⟩ ⟨R.val % 32, Nat.mod_lt _ (by omega)⟩ k
  rw [hp] at e
  exact e

/-- THE KERNEL'S RUN: the result is every row's result, the argument unchanged. -/
theorem run_rows : θ_run defs (onTc (τ := τ) (main (F := Ideal))) ⟨m, fun _ => 0, ρ⟩ fun r => ∀ c : Dev nD,
      r.2.mem ((c : Thread nD τ).loc main_v0) = result (m ((c : Thread nD τ).loc main_arg0))
      ∧ r.2.mem ((c : Thread nD τ).loc main_arg0) = m ((c : Thread nD τ).loc main_arg0) :=
  (θ_run defs _ _).mono (fun _ h c => ⟨(h c).1.trans (final_eq m c), (h c).2⟩) (Cert.KernelIdeal.Value.run_blocks m ρ)

end Cert.Proof.Array

end
-- ==== Proof.Rows.lean ====
/-
  What the host's operations along the rows of a matrix leave, at exact arithmetic: a sort of every row, the running
  sums of every row, and one element taken out of every row. Stated at any number of rows of any length.
-/
module

public import Idealize.ShloMosaic.PureOps.Ideal
public import Idealize.ShloMosaic.Lib.SortFacts
public import Idealize.ShloMosaic.Lib.ValueIdxCore
public import Idealize.ShloMosaic.Lib.IndicatorCount
public import Idealize.ShloMosaic.PureOps.Ideal.Laws
public import Mathlib.Order.Interval.Finset.Fin

@[expose] public section

noncomputable section

namespace Cert.Proof.Rows

open Idealize.ShloMosaic Idealize.ShloMosaic.ValueIdx

/-- A matrix of `B` rows of length `N`. -/
abbrev Mat (B N : Nat) : Shape := ⟨2, ![B, N]⟩

variable {B N : Nat}

/-- Moving along a row from one of its elements. -/
theorem along_row (R : Fin B) (j k : Fin N) :
    Shape.Idx.along (s := Mat B N) (ix2 R j) (1 : Fin 2) k = ix2 R k := by
  funext a
  match a with
  | ⟨0, _⟩ => exact Function.update_of_ne (Fin.ne_of_val_ne (by show 0 ≠ 1; omega)) _ _
  | ⟨1, _⟩ => exact Function.update_self _ _ _

/-- SORTING A ROW by a comparator that says "less than" rearranges the row into ascending order. -/
theorem sort_row (cmp : EReal → EReal → BitVec 1) (hc : ∀ l r, cmp l r = 1#1 ↔ l < r) (x : (Mat B N).Idx → EReal)
    (R : Fin B) : ∃ f : Fin N → Fin N, Function.Bijective f
      ∧ (∀ j, Host.sort (Mat B N) 1 cmp x (ix2 R j) = x (ix2 R (f j)))
      ∧ ∀ i j, i ≤ j → x (ix2 R (f i)) ≤ x (ix2 R (f j)) := by
  set before : Fin N → Fin N → Bool := fun k k' => cmp (x (ix2 R k)) (x (ix2 R k')) == 1#1 with hb
  have hbt : ∀ k k', before k k' = true ↔ x (ix2 R k) < x (ix2 R k') := fun k k' => by
    rw [hb]; simp only [beq_iff_eq]; exact hc _ _
  have hbf : ∀ k k', before k k' = false ↔ x (ix2 R k') ≤ x (ix2 R k) := fun k k' => by
    rw [← Bool.not_eq_true, hbt, not_lt]
  refine ⟨sortedFrom before, ⟨sortedFrom_injective _, sortedFrom_surjective _⟩, fun j => ?_, fun i j hij => ?_⟩
  · have hd : 1 < (Mat B N).rank := Nat.one_lt_two
    unfold Host.sort
    rw [dif_pos hd]
    show x (Shape.Idx.along (s := Mat B N) (ix2 R j) (1 : Fin 2) (sortedFrom (fun k k' =>
      cmp (x (Shape.Idx.along (s := Mat B N) (ix2 R j) (1 : Fin 2) k))
        (x (Shape.Idx.along (s := Mat B N) (ix2 R j) (1 : Fin 2) k')) == 1#1) j)) = _
    rw [show (fun k k' => cmp (x (Shape.Idx.along (s := Mat B N) (ix2 R j) (1 : Fin 2) k))
        (x (Shape.Idx.along (s := Mat B N) (ix2 R j) (1 : Fin 2) k')) == 1#1) = before from
      funext fun k => funext fun k' => by rw [along_row R j k, along_row R j k']]
    exact congrArg x (along_row R j _)
  · rcases eq_or_lt_of_le hij with rfl | hlt
    · exact le_refl _
    · refine (hbf _ _).mp (sortedFrom_noInversion before before (fun a b h => ?_) (fun _ _ h => h) (fun a b c h1 h2 => ?_) i j hlt)
      · exact (hbf _ _).mpr ((hbt _ _).mp h).le
      · exact (hbf _ _).mpr (((hbf _ _).mp h2).trans ((hbf _ _).mp h1))

/-- A left fold by addition is a sum. -/
theorem foldl_add {ι : Type} (g : ι → EReal) (l : List ι) (v : EReal) :
    l.foldl (fun r n => r + g n) v = v + (l.map g).sum := by
  induction l generalizing v with
  | nil => simp
  | cons a l ih => rw [List.foldl_cons, ih, List.map_cons, List.sum_cons, add_assoc]

/-- The indices of a one-row matrix are the places of its row. -/
def places (N : Nat) : Fin N ≃ (Mat 1 N).Idx where
  toFun k := ix2 0 k
  invFun w := w 1
  left_inv _ := rfl
  right_inv w := by
    funext a
    match a with
    | ⟨0, _⟩ => exact Subsingleton.elim (α := Fin 1) _ _
    | ⟨1, _⟩ => rfl

/-- THE RUNNING SUMS OF A ROW: a window as long as the row, padded below by one less than that, sums the row's
    elements up to each place. -/
theorem running_row (hlo hhi : Fin 2 → Nat) (h : (Mat B N).ReduceWindows ![1, N] ![1, 1] hlo hhi (Mat B N))
    (h0 : hlo 0 = 0) (h1 : hlo 1 = N - 1) (x : (Mat B N).Idx → EReal) (R : Fin B) (j : Fin N) :
    Ideal.hostReduceWindowAdd ![1, N] ![1, 1] hlo hhi h x 0 (ix2 R j) = ∑ i ∈ Finset.Iic j, x (ix2 R i) := by
  unfold Ideal.hostReduceWindowAdd Host.reduceWindow
  simp only []
  rw [foldl_add, zero_add, ← Fin.sum_univ_def, Equiv.sum_comp (Shape.rowMajor ⟨2, ![1, N]⟩).symm (fun w : (Mat 1 N).Idx =>
      if hin : ∀ a, hlo a ≤ ((ix2 R j) (Fin.cast h.1.symm a)).val * (![1, 1] : Fin 2 → Nat) a + (w a).val
        ∧ ((ix2 R j) (Fin.cast h.1.symm a)).val * (![1, 1] : Fin 2 → Nat) a + (w a).val - hlo a < (Mat B N).size a
      then x (fun a => ⟨((ix2 R j) (Fin.cast h.1.symm a)).val * (![1, 1] : Fin 2 → Nat) a + (w a).val - hlo a, (hin a).2⟩)
      else (0 : EReal)), ← Equiv.sum_comp (places N)]
  have hterm : ∀ k : Fin N, (if hin : ∀ a, hlo a ≤ ((ix2 R j) (Fin.cast h.1.symm a)).val * (![1, 1] : Fin 2 → Nat) a + (places N k a).val
        ∧ ((ix2 R j) (Fin.cast h.1.symm a)).val * (![1, 1] : Fin 2 → Nat) a + (places N k a).val - hlo a < (Mat B N).size a
      then x (fun a => ⟨((ix2 R j) (Fin.cast h.1.symm a)).val * (![1, 1] : Fin 2 → Nat) a + (places N k a).val - hlo a, (hin a).2⟩)
      else (0 : EReal)) = if hk : N - 1 ≤ j.val + k.val then x (ix2 R ⟨j.val + k.val - (N - 1), by omega⟩) else 0 := by
    intro k
    by_cases hk : N - 1 ≤ j.val + k.val
    · have hin : ∀ a, hlo a ≤ ((ix2 R j) (Fin.cast h.1.symm a)).val * (![1, 1] : Fin 2 → Nat) a + (places N k a).val
        ∧ ((ix2 R j) (Fin.cast h.1.symm a)).val * (![1, 1] : Fin 2 → Nat) a + (places N k a).val - hlo a < (Mat B N).size a := by
        intro a
        match a with
        | ⟨0, _⟩ =>
          show hlo 0 ≤ R.val * 1 + 0 ∧ R.val * 1 + 0 - hlo 0 < B
          have := R.isLt; omega
        | ⟨1, _⟩ =>
          show hlo 1 ≤ j.val * 1 + k.val ∧ j.val * 1 + k.val - hlo 1 < N
          have := j.isLt; have := k.isLt; omega
      rw [dif_pos hin, dif_pos hk]
      refine congrArg x (funext fun a => Fin.ext ?_)
      match a with
      | ⟨0, _⟩ => show R.val * 1 + 0 - hlo 0 = R.val; omega
      | ⟨1, _⟩ => show j.val * 1 + k.val - hlo 1 = j.val + k.val - (N - 1); omega
    · rw [dif_neg hk, dif_neg]
      intro hin
      have := (hin 1).1
      have : hlo 1 ≤ j.val * 1 + k.val := this
      omega
  rw [Finset.sum_congr rfl fun k _ => hterm k]
  refine Finset.sum_bij_ne_zero (fun k _ hk => (⟨j.val + k.val - (N - 1), by omega⟩ : Fin N)) ?_ ?_ ?_ ?_
  · intro k _ hk
    rw [Finset.mem_Iic, Fin.le_def]
    show j.val + k.val - (N - 1) ≤ j.val
    omega
  · intro k _ hk k' _ hk' e
    have h1 : N - 1 ≤ j.val + k.val := by by_contra hc; exact hk (dif_neg hc)
    have h2 : N - 1 ≤ j.val + k'.val := by by_contra hc; exact hk' (dif_neg hc)
    have := congrArg Fin.val e
    simp only [] at this
    exact Fin.ext (by omega)
  · intro i hi hne
    have hi' := Fin.le_def.mp (Finset.mem_Iic.mp hi)
    have e : (⟨j.val + (N - 1 + i.val - j.val) - (N - 1), by omega⟩ : Fin N) = i := Fin.ext (by simp only []; omega)
    have hk : N - 1 ≤ j.val + (N - 1 + i.val - j.val) := by omega
    refine ⟨⟨N - 1 + i.val - j.val, by omega⟩, Finset.mem_univ _, ?_, e⟩
    rw [dif_pos hk, e]
    exact hne
  · intro k _ hk
    have h1 : N - 1 ≤ j.val + k.val := by by_contra hc; exact hk (dif_neg hc)
    rw [dif_pos h1]

/-- The places a column of single indices is read at: row `R`'s. -/
abbrev spot (R : Fin B) : (⟨3, ![B, 1, 1]⟩ : Shape).Idx :=
  fun a => match a with | ⟨0, _⟩ => R | ⟨1, _⟩ => ⟨0, Nat.one_pos⟩ | ⟨2, _⟩ => ⟨0, Nat.one_pos⟩

/-- Taking one element out of every row of a matrix. -/
abbrev oneOfRow (B N : Nat) (wf : GatherDims.WF (Mat B N) ⟨3, ![B, 1, 1]⟩ ⟨2, ![B, 1]⟩ [] [1] [0] [1] [0] 2 ![1, 1]) :
    GatherDims (Mat B N) ⟨3, ![B, 1, 1]⟩ ⟨2, ![B, 1]⟩ where
  offsetDims := []
  collapsedSliceDims := [1]
  operandBatchingDims := [0]
  startIndicesBatchingDims := [0]
  startIndexMap := [1]
  indexVectorDim := 2
  sliceSizes := ![1, 1]
  wf := wf

/-- ONE ELEMENT OF EVERY ROW: gathered at a column of places, each read as a signed number kept inside the row. -/
theorem take_row (wf : GatherDims.WF (Mat B N) ⟨3, ![B, 1, 1]⟩ ⟨2, ![B, 1]⟩ [] [1] [0] [1] [0] 2 ![1, 1])
    (x : (Mat B N).Idx → EReal) {w : Nat} (idx : IVec ⟨3, ![B, 1, 1]⟩ w) (R : Fin B) (hN : 0 < N) :
    Host.gather (oneOfRow B N wf) x idx (ix2 R 0) = x (ix2 R ⟨min (idx (spot R)).toInt.toNat (N - 1), by omega⟩) := by
  refine congrArg x (funext fun a => Fin.ext ?_)
  show (oneOfRow B N wf).start (ix2 R 0) idx a + (oneOfRow B N wf).batchCoord (ix2 R 0) a
      + (oneOfRow B N wf).offCoord (ix2 R 0) a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    have hm : (⟨0, Nat.zero_lt_two⟩ : Fin 2) ∈ (oneOfRow B N wf).operandBatchingDims := List.mem_singleton.mpr rfl
    rw [dif_pos hm]
    rfl
  | ⟨1, _⟩ =>
    rw [GatherDims.batchCoord_eq_zero _ _ _ (fun h => absurd (congrArg Fin.val (List.mem_singleton.mp h)) (by show ¬ (1 = 0); omega)),
      GatherDims.offCoord_eq_zero _ _ _ (fun h => ((GatherDims.mem_sKept _ _).mp h).1 (List.mem_singleton.mpr rfl))]
    simp only [Nat.add_zero]
    unfold GatherDims.start
    have hm : (⟨1, Nat.one_lt_two⟩ : Fin 2) ∈ (oneOfRow B N wf).startIndexMap := List.mem_singleton.mpr rfl
    rw [dif_pos hm]
    have hs : (oneOfRow B N wf).siIdx (ix2 R 0) ⟨List.idxOf (⟨1, Nat.one_lt_two⟩ : Fin 2) (oneOfRow B N wf).startIndexMap,
        List.idxOf_lt_length_iff.2 hm⟩ = spot R := by
      funext b; refine Fin.ext ?_
      match b with
      | ⟨0, _⟩ => rfl
      | ⟨1, _⟩ => rfl
      | ⟨2, _⟩ => rfl
    rw [hs]
    rfl

/-- The place a reduction over the columns reads. -/
theorem lift_row (h : (Mat B N).Reduces [1] ⟨1, ![B]⟩) (R : Fin B) (k : Fin N) : h.lift (ix1 R) k = ix2 R k := by
  funext a; match a with | ⟨0, _⟩ => rfl | ⟨1, _⟩ => rfl

/-- HOW MANY OF A ROW'S ELEMENTS ARE MARKED: the sum of the marks as words. -/
theorem count_row (h' : (Mat B N).ReducesTo [1] ⟨1, ![B]⟩) (h : (Mat B N).Reduces [1] ⟨1, ![B]⟩) {u : Shape} (hu : 0 < u.numel)
    (p : (Mat B N).Idx → BitVec 1) (init : u.Idx → BitVec 32) (hi : init (Shape.Idx.first hu) = 0#32) (R : Fin B) :
    Host.reduce IntOp.addi (fun i => (p i).setWidth 32) init h' hu (ix1 R)
      = BitVec.ofNat 32 (Finset.univ.filter fun k => p (ix2 R k) = 1#1).card := by
  refine (Host.reduce_eq_fold_single IntOp.addi _ init h' h hu (ix1 R)).trans ?_
  rw [hi, ← IndicatorCount.fold_addi_setWidth_eq_card (fun k : Fin N => p (ix2 R k)) Finset.univ]
  refine Finset.fold_congr fun k _ => ?_
  show (p (h.lift (ix1 R) k)).setWidth 32 = _
  exact congrArg (fun i => (p i).setWidth 32) (lift_row h R k)

/-- A conjunction is one where every term is. -/
theorem fold_andi {ι : Type} (S : Finset ι) (f : ι → BitVec 1) : S.fold IntOp.andi 1#1 f = 1#1 ↔ ∀ k ∈ S, f k = 1#1 := by
  classical
  induction S using Finset.induction_on with
  | empty => simp
  | insert a S ha ih =>
    rw [Finset.fold_insert ha, Finset.forall_mem_insert, ← ih]
    generalize f a = x
    generalize Finset.fold IntOp.andi 1#1 f S = y
    revert x y; decide

/-- WHETHER ALL OF A ROW'S ELEMENTS ARE MARKED. -/
theorem all_row (h' : (Mat B N).ReducesTo [1] ⟨1, ![B]⟩) (h : (Mat B N).Reduces [1] ⟨1, ![B]⟩) {u : Shape} (hu : 0 < u.numel)
    (p : (Mat B N).Idx → BitVec 1) (init : u.Idx → BitVec 1) (hi : init (Shape.Idx.first hu) = 1#1) (R : Fin B) :
    Host.reduce IntOp.andi p init h' hu (ix1 R) = 1#1 ↔ ∀ k, p (ix2 R k) = 1#1 := by
  rw [Host.reduce_eq_fold_single IntOp.andi p init h' h hu (ix1 R), hi]
  refine (fold_andi _ _).trans ⟨fun hk k => ?_, fun hk k _ => ?_⟩
  · have := hk k (Finset.mem_univ _)
    exact (congrArg p (lift_row h R k)).symm.trans this
  · exact (congrArg p (lift_row h R k)).trans (hk k)

/-- THE MAXIMUM OF A ROW. -/
theorem max_row (h' : (Mat B N).ReducesTo [1] ⟨1, ![B]⟩) (h : (Mat B N).Reduces [1] ⟨1, ![B]⟩) {u : Shape} (hu : 0 < u.numel)
    (x : (Mat B N).Idx → EReal) (init : u.Idx → EReal) (hi : init (Shape.Idx.first hu) = ⊥) (R : Fin B) :
    Host.reduce (max : EReal → EReal → EReal) x init h' hu (ix1 R) = Finset.univ.sup fun k : Fin N => x (ix2 R k) := by
  refine (Host.reduce_eq_fold_single max x init h' h hu (ix1 R)).trans ?_
  rw [hi]
  refine Finset.fold_congr fun k _ => ?_
  exact congrArg x (lift_row h R k)

/-- THE SUM OF A ROW. -/
theorem sum_row (h' : (Mat B N).ReducesTo [1] ⟨1, ![B]⟩) (h : (Mat B N).Reduces [1] ⟨1, ![B]⟩)
    (x : (Mat B N).Idx → EReal) (R : Fin B) : Ideal.hostReduceAdd h' x 0 (ix1 R) = ∑ k : Fin N, x (ix2 R k) := by
  refine (Ideal.hostReduceAdd_single h' h x 0 (ix1 R)).trans ?_
  rw [zero_add]
  exact Finset.sum_congr rfl fun k _ => congrArg x (lift_row h R k)

end Cert.Proof.Rows

end
-- ==== Proof.Bits.lean ====
/-
  One-bit answers: what a comparison of two extended reals says, and a choice by one.
-/
module

public import Idealize.ShloMosaic.PureOps.Ideal

@[expose] public section

noncomputable section

namespace Cert.Proof.Bits

open Idealize.ShloMosaic

theorem ofBool_one (b : Bool) : BitVec.ofBool b = 1#1 ↔ b = true := by cases b <;> decide

theorem oeq_iff (x y : EReal) : Ideal.cmp .oeq x y = 1#1 ↔ x = y := (ofBool_one _).trans decide_eq_true_iff
theorem une_iff (x y : EReal) : Ideal.cmp .une x y = 1#1 ↔ x ≠ y := (ofBool_one _).trans decide_eq_true_iff
theorem oge_iff (x y : EReal) : Ideal.cmp .oge x y = 1#1 ↔ y ≤ x := (ofBool_one _).trans decide_eq_true_iff
theorem ole_iff (x y : EReal) : Ideal.cmp .ole x y = 1#1 ↔ x ≤ y := (ofBool_one _).trans decide_eq_true_iff
theorem olt_iff (x y : EReal) : Ideal.cmp .olt x y = 1#1 ↔ x < y := (ofBool_one _).trans decide_eq_true_iff
theorem ogt_iff (x y : EReal) : Ideal.cmp .ogt x y = 1#1 ↔ y < x := (ofBool_one _).trans decide_eq_true_iff

/-- A choice whose two sides agree where the condition holds is its second side. -/
theorem select_same {α : Type} (c : BitVec 1) (a b : α) (h : c = 1#1 → a = b) : Scalar.select c a b = b := by
  show (if c = 1#1 then a else b) = b
  split
  · exact h ‹_›
  · rfl

theorem select_true {α : Type} {c : BitVec 1} (h : c = 1#1) (a b : α) : Scalar.select c a b = a := if_pos h

theorem andi_iff (a b : BitVec 1) : IntOp.andi a b = 1#1 ↔ a = 1#1 ∧ b = 1#1 := by
  revert a b; decide
theorem ori_iff (a b : BitVec 1) : IntOp.ori a b = 1#1 ↔ a = 1#1 ∨ b = 1#1 := by
  revert a b; decide

/-- Before a sort compares two numbers it makes every zero and every not-a-number one word; over the extended reals
    that changes nothing. -/
theorem canon (q x : EReal) : Scalar.select (Ideal.cmp .une x x) q
    (Scalar.select (Ideal.cmp .oeq x (Ideal.ofBits .f32 0x00000000#32)) (Ideal.ofBits .f32 0x00000000#32) x) = x := by
  rw [select_same (Ideal.cmp .oeq x _) _ _ fun h => ((oeq_iff _ _).mp h).symm]
  exact select_same _ _ _ fun h => absurd rfl ((une_iff _ _).mp h)

end Cert.Proof.Bits

end
-- ==== Proof.Reference.lean ====
/-
  The reference's array over the extended reals, on a row of real scores: each element of the row is the weight of
  its score at a threshold whose weights sum to one (`row_weights`).
-/
module

public import proofs.«01_k».proof.Proof.Gen.ReferenceIdeal.Read
public import proofs.«01_k».proof.Proof.Rows
public import proofs.«01_k».proof.Proof.Row
public import proofs.«01_k».proof.Proof.Bits
public import Idealize.ShloMosaic.Lib.IndicatorCount
public import Idealize.ShloMosaic.Lib.ReduceAll

@[expose] public section

noncomputable section

namespace Cert.Proof.Reference

open Cert.ReferenceIdeal Cert.ReferenceIdeal.Gen Cert.ReferenceIdeal.Read
open Idealize.ShloMosaic Idealize.ShloMosaic.TcCoe Idealize.ShloMosaic.ValueIdx
open Finset

/-- The reference's scores. -/
abbrev Scores := Vec Ideal S128x32768 .f32

/-- The comparator of the reference's sort says "less than". -/
theorem before_iff (l r : EReal) : comparator_f32_d1 (F := Ideal) l r = 1#1 ↔ l < r := by
  show Ideal.cmp .olt (Scalar.select (Ideal.cmp .une l l) (Ideal.ofBits .f32 0x7FC00000#32) (Scalar.select (Ideal.cmp .oeq l (Ideal.ofBits .f32 0x00000000#32)) (Ideal.ofBits .f32 0x00000000#32) l))
    (Scalar.select (Ideal.cmp .une r r) (Ideal.ofBits .f32 0x7FC00000#32) (Scalar.select (Ideal.cmp .oeq r (Ideal.ofBits .f32 0x00000000#32)) (Ideal.ofBits .f32 0x00000000#32) r)) = 1#1 ↔ _
  rw [Bits.canon, Bits.canon]
  exact Bits.olt_iff l r

variable (x0 : Scores) (R : Fin 128) (x : Fin 32768 → ℝ) (hx : ∀ i, x0 (ix2 R i) = (x i : EReal))
include hx

/-- The reference sorts the row into descending order. -/
theorem sorted_row : ∃ f : Fin 32768 → Fin 32768, Function.Bijective f ∧ Antitone (fun j => x (f j))
    ∧ ∀ j, val_main_v2 (F := Ideal) x0 (ix2 R j) = (x (f j) : EReal) := by
  have neg : ∀ i, val_main_v0 (F := Ideal) x0 (ix2 R i) = ((-(x i) : ℝ) : EReal) := fun i => by
    rw [val_main_v0_apply, hx]; rfl
  obtain ⟨f, hf, hs, hm⟩ := Rows.sort_row (comparator_f32_d1 (F := Ideal)) before_iff (val_main_v0 (F := Ideal) x0) R
  refine ⟨f, hf, fun i j hij => ?_, fun j => ?_⟩
  · have h := hm i j hij
    rw [neg, neg, EReal.coe_le_coe_iff] at h
    show x (f j) ≤ x (f i)
    linarith
  · rw [val_main_v2_apply]
    have h : val_main_v1 (F := Ideal) x0 (ix2 R j) = _ := hs j
    rw [h, neg]
    show -((-(x (f j)) : ℝ) : EReal) = _
    rw [← EReal.coe_neg, neg_neg]

omit hx

/-- The places along a row, counted from one. -/
theorem place_row (i : S1x32768.Idx) (j : Fin 32768) (h : i 1 = j) :
    val_main_v6 (F := Ideal) i = ((Threshold.cnt j : ℝ) : EReal) := by
  have h0 : (i 0).val = 0 := by have := (i 0).isLt; have : (i 0).val < 1 := this; omega
  have hv : (idx_main_v6 i 0).val = j.val := by
    show (i 0).val * 32768 + (i 1).val = j.val
    rw [h, h0]; omega
  have hi : (BitVec.ofNat 32 j.val).toInt = (j.val : ℤ) := by
    have hl := j.isLt
    have hn : (BitVec.ofNat 32 j.val).toNat = j.val := by
      rw [BitVec.toNat_ofNat]; exact Nat.mod_eq_of_lt (by omega)
    rw [BitVec.toInt_eq_toNat_of_lt (by rw [hn]; omega), hn]
  rw [val_main_v6_apply, val_main_v5_apply, val_main_v4_apply, val_main_cst_apply]
  show Ideal.ofBits .f32 0x3F800000#32 + (((BitVec.ofNat 32 (idx_main_v6 i 0).val).toInt : ℝ) : EReal) = _
  rw [hv, hi, Row.word_one, ← EReal.coe_one, ← EReal.coe_add]
  congr 1
  unfold Threshold.cnt
  push_cast
  ring

/-- A sum over part of a row of reals. -/
theorem coe_sum_on (s : Finset (Fin 32768)) (f : Fin 32768 → ℝ) : ∑ i ∈ s, ((f i : ℝ) : EReal) = ((∑ i ∈ s, f i : ℝ) : EReal) := by
  induction s using Finset.induction_on with
  | empty => simp
  | insert a s ha ih => rw [sum_insert ha, sum_insert ha, ih, EReal.coe_add]

variable (s : Fin 32768 → ℝ) (hs : ∀ j, val_main_v2 (F := Ideal) x0 (ix2 R j) = (s j : EReal))
include hs

theorem sums_row (j : Fin 32768) : val_main_v7 (F := Ideal) x0 (ix2 R j) = ((∑ i ∈ Iic j, s i : ℝ) : EReal) := by
  unfold val_main_v7 Host.reduceWindowAdd
  rw [Ideal.hostReduceWindowAdd_def, val_main_call1_call0_v0_apply, val_main_call1_call0_cst_apply]
  rw [show FloatOps.ofBits (F := Ideal) .f32 0x00000000#32 = 0 from Row.word_zero]
  refine (Rows.running_row (B := 128) (N := 32768) _ _ _ rfl (show (32767 : ℕ) = 32768 - 1 by norm_num) _ R j).trans ?_
  rw [← coe_sum_on]
  exact sum_congr rfl fun i _ => hs i

theorem square_sums_row (j : Fin 32768) : val_main_v11 (F := Ideal) x0 (ix2 R j) = ((∑ i ∈ Iic j, s i * s i : ℝ) : EReal) := by
  unfold val_main_v11 Host.reduceWindowAdd
  rw [Ideal.hostReduceWindowAdd_def, val_main_call2_call0_v0_apply, val_main_call2_call0_cst_apply]
  rw [show FloatOps.ofBits (F := Ideal) .f32 0x00000000#32 = 0 from Row.word_zero]
  refine (Rows.running_row (B := 128) (N := 32768) _ _ _ rfl (show (32767 : ℕ) = 32768 - 1 by norm_num) _ R j).trans ?_
  rw [← coe_sum_on]
  refine sum_congr rfl fun i _ => ?_
  rw [val_main_v10_apply, hs, EReal.coe_mul]
  rfl

/-- THE CANDIDATE THRESHOLDS of a sorted row. -/
theorem tau_row (j : Fin 32768) : val_main_v24 (F := Ideal) x0 (ix2 R j) = ((Threshold.tau s j : ℝ) : EReal) := by
  have hc : Threshold.cnt j ≠ 0 := (Threshold.cnt_pos j).ne'
  have p8 : val_main_v8 (F := Ideal) (ix2 R j) = ((Threshold.cnt j : ℝ) : EReal) := by rw [val_main_v8_apply]; exact place_row _ j rfl
  have p12 : val_main_v12 (F := Ideal) (ix2 R j) = ((Threshold.cnt j : ℝ) : EReal) := by rw [val_main_v12_apply]; exact place_row _ j rfl
  have p16 : val_main_v16 (F := Ideal) (ix2 R j) = ((Threshold.cnt j : ℝ) : EReal) := by rw [val_main_v16_apply]; exact place_row _ j rfl
  have p20 : val_main_v20 (F := Ideal) (ix2 R j) = ((Threshold.cnt j : ℝ) : EReal) := by rw [val_main_v20_apply]; exact place_row _ j rfl
  have m : val_main_v9 (F := Ideal) x0 (ix2 R j) = ((Threshold.mean s j : ℝ) : EReal) := by
    rw [val_main_v9_apply, sums_row x0 R s hs, p8]
    exact Row.div_coe _ hc
  have q : val_main_v13 (F := Ideal) x0 (ix2 R j) = ((Threshold.meanSq s j : ℝ) : EReal) := by
    rw [val_main_v13_apply, square_sums_row x0 R s hs, p12]
    exact Row.div_coe _ hc
  have v : val_main_v17 (F := Ideal) x0 (ix2 R j) = ((Threshold.spread s j : ℝ) : EReal) := by
    rw [val_main_v17_apply, val_main_v15_apply, val_main_v14_apply, p16, m, q]
    show (Threshold.cnt j : EReal) * ((Threshold.meanSq s j : EReal) - (Threshold.mean s j : EReal) * (Threshold.mean s j : EReal)) = _
    rw [← EReal.coe_mul, ← EReal.coe_sub, ← EReal.coe_mul]
    rfl
  have d : val_main_v22 (F := Ideal) x0 (ix2 R j) = ((max 0 ((1 - Threshold.spread s j) / Threshold.cnt j) : ℝ) : EReal) := by
    rw [val_main_v22_apply, val_main_call3_v1_apply, val_main_call3_v0_apply, val_main_cst_1_apply, val_main_v21_apply,
      val_main_v19_apply, val_main_v18_apply, val_main_cst_0_apply, v, p20]
    show max (Ideal.ofBits .f32 0x00000000#32) (Ideal.div (Ideal.ofBits .f32 0x3F800000#32 - (Threshold.spread s j : EReal)) (Threshold.cnt j : EReal)) = _
    rw [Row.word_zero, Row.word_one, ← EReal.coe_one, ← EReal.coe_sub, Row.div_coe _ hc, ← EReal.coe_zero, Row.coe_max]
  rw [val_main_v24_apply, m, val_main_v23_apply, d]
  rw [Ideal.hostUnary_sqrt_def]
  show (Threshold.mean s j : EReal) - Ideal.sqrt ((max 0 ((1 - Threshold.spread s j) / Threshold.cnt j) : ℝ) : EReal) = _
  rw [Ideal.sqrt_coe, if_neg (not_lt.mpr (le_max_left _ _)), ← EReal.coe_sub]
  rfl

/-- How many places of the row are in the support. -/
theorem support_row : val_main_v27 (F := Ideal) x0 (ix1 R)
    = BitVec.ofNat 32 (univ.filter fun j => Threshold.tau s j ≤ s j).card := by
  refine (Rows.count_row reducesTo_S128x32768_S128_d1 (by decide) h_S_ (val_main_v25 (F := Ideal) x0) (val_main_c (F := Ideal)) rfl R).trans ?_
  congr 3
  funext j
  rw [val_main_v25_apply, hs, tau_row x0 R s hs]
  exact propext ((Bits.oge_iff _ _).trans EReal.coe_le_coe_iff)

omit hs

/-- What a small place is as a signed word. -/
theorem small_word {K : ℕ} (hK : K ≤ 32768) : (BitVec.ofNat 32 K).toInt = (K : ℤ) := by
  have hn : (BitVec.ofNat 32 K).toNat = K := by
    rw [BitVec.toNat_ofNat]; exact Nat.mod_eq_of_lt (by omega)
  rw [BitVec.toInt_eq_toNat_of_lt (by rw [hn]; omega), hn]

/-- The place the threshold is taken from: one less than the size of a support that is not empty. -/
theorem index_row {c : ℕ} (h1 : 1 ≤ c) (h2 : c ≤ 32768) (hc : val_main_v27 (F := Ideal) x0 (ix1 R) = BitVec.ofNat 32 c) :
    val_main_call5_v5 (F := Ideal) x0 (Rows.spot R) = BitVec.ofNat 32 (c - 1) := by
  have i5 : idx_main_call5_v5 (Rows.spot R) = ix2 R 0 := by
    funext a; match a with
    | ⟨0, _⟩ => exact Fin.ext (by show ((R.val * 1 + 0) * 1 + 0) / 1 = R.val; omega)
    | ⟨1, _⟩ => rfl
  have i28 : idx_main_v28 (ix2 R 0) = ix1 R := by
    funext a; match a with | ⟨0, _⟩ => rfl
  have v29 : val_main_v29 (F := Ideal) x0 (ix2 R 0) = BitVec.ofNat 32 c := by
    rw [val_main_v29_apply, val_main_v28_apply, i28, hc, val_main_call4_v1_apply, val_main_call4_v0_apply, val_main_c_2_apply]
    unfold IntOp.maxsi
    split
    · rename_i h
      rw [BitVec.slt_iff_toInt_lt, small_word h2] at h
      have : (1#32 : BitVec 32).toInt = 1 := rfl
      omega
    · rfl
  have v31 : val_main_v31 (F := Ideal) x0 (ix2 R 0) = BitVec.ofNat 32 (c - 1) := by
    rw [val_main_v31_apply, v29, val_main_v30_apply, val_main_c_3_apply]
    show BitVec.ofNat 32 c - BitVec.ofNat 32 1 = _
    rw [BitVec.ofNat_sub_ofNat_of_le _ _ (by omega) h1]
  rw [val_main_call5_v5_apply, i5, val_main_call5_v4_apply, v31, val_main_call5_v1_apply, v31, val_main_call5_v0_apply, val_main_call5_c_apply]
  refine Bits.select_same _ _ _ fun h => ?_
  rw [IntOp.cmpi, Bits.ofBool_one, BitVec.slt_iff_toInt_lt, small_word (by omega)] at h
  have : (0#32 : BitVec 32).toInt = 0 := rfl
  omega

/-- The place is inside the row, so what is taken there is kept. -/
theorem inside_row {K : ℕ} (hK : K < 32768) (h : val_main_call5_v5 (F := Ideal) x0 (Rows.spot R) = BitVec.ofNat 32 K) :
    val_main_call5_v12 (F := Ideal) x0 (ix2 R 0) = 1#1 := by
  have hr : S128x1x1.Reduces [2] S128x1 := by decide
  have hl : ∀ k, hr.lift (ix2 R 0) k = Rows.spot R := fun k => by
    funext a
    match a with
    | ⟨0, _⟩ => rfl
    | ⟨1, _⟩ => rfl
    | ⟨2, _⟩ => exact Subsingleton.elim (α := Fin 1) _ _
  have w : (BitVec.ofNat 32 K).toInt = (K : ℤ) := small_word hK.le
  unfold val_main_call5_v12
  rw [Host.reduce_eq_fold_single IntOp.andi _ _ reducesTo_S128x1x1_S128x1_d2 hr h_S_ (ix2 R 0), val_main_call5_c_3_apply]
  refine (Rows.fold_andi _ _).mpr fun k _ => ?_
  rw [Function.comp_apply, hl, val_main_call5_v11_apply, Bits.andi_iff, val_main_call5_v7_apply, val_main_call5_v10_apply, h,
    val_main_call5_v6_apply, val_main_call5_c_2_apply, val_main_call5_v9_apply, val_main_call5_v8_apply, val_main_call5_c_1_apply,
    IntOp.cmpi, IntOp.cmpi, Bits.ofBool_one, Bits.ofBool_one, BitVec.sle_iff_toInt_le, BitVec.sle_iff_toInt_le, w]
  have e0 : (0#32 : BitVec 32).toInt = 0 := rfl
  have e1 : (32767#32 : BitVec 32).toInt = 32767 := rfl
  omega

/-- The threshold the reference takes for a row. -/
theorem taken_row (K : Fin 32768) (h : val_main_call5_v5 (F := Ideal) x0 (Rows.spot R) = BitVec.ofNat 32 K.val) :
    val_main_v32 (F := Ideal) x0 (ix2 R 0) = val_main_v24 (F := Ideal) x0 (ix2 R K) := by
  have hg : val_main_call5_v13 (F := Ideal) x0 (ix2 R 0) = _ :=
    Rows.take_row gather_S128x32768_S128x1x1_S128x1_n_1_0_0_1_2_11_wf (val_main_v24 (F := Ideal) x0)
      (val_main_call5_v5 (F := Ideal) x0) R (by norm_num)
  rw [val_main_v32_apply, Bits.select_true (inside_row x0 R K.isLt h), hg]
  refine congrArg (fun k => val_main_v24 (F := Ideal) x0 (ix2 R k)) (Fin.ext ?_)
  show min (val_main_call5_v5 (F := Ideal) x0 (Rows.spot R)).toInt.toNat (32768 - 1) = K.val
  rw [h, small_word K.isLt.le]
  have := K.isLt
  omega

include hx

/-- THE REFERENCE'S ROW: the weights of the row's scores at a threshold at which they sum to one. -/
theorem row_weights : ∃ t : ℝ, Threshold.mass x t = 1
    ∧ ∀ i, val_main_v41 (F := Ideal) x0 (ix2 R i) = ((Threshold.wt (x i) t : ℝ) : EReal) := by
  obtain ⟨f, hf, ha, hs⟩ := sorted_row x0 R x hx
  set s : Fin 32768 → ℝ := fun j => x (f j) with hsd
  have hc1 : 1 ≤ (univ.filter fun j => Threshold.tau s j ≤ s j).card := Threshold.support_pos ha (by norm_num)
  have hc2 : (univ.filter fun j => Threshold.tau s j ≤ s j).card ≤ 32768 := (card_filter_le _ _).trans (by rw [card_univ, Fintype.card_fin])
  have hidx := index_row x0 R hc1 hc2 (support_row x0 R s hs)
  let K : Fin 32768 := ⟨(univ.filter fun j => Threshold.tau s j ≤ s j).card - 1, by omega⟩
  have hm : Threshold.mass x (Threshold.tau s K) = 1 := by
    rw [← Threshold.mass_comp x hf]
    exact Threshold.mass_tau ha K (by show _ - 1 + 1 = _; omega)
  refine ⟨Threshold.tau s K, hm, ?_⟩
  have ht : val_main_v32 (F := Ideal) x0 (ix2 R 0) = ((Threshold.tau s K : ℝ) : EReal) :=
    (taken_row x0 R K hidx).trans (tau_row x0 R s hs K)
  have hw : ∀ i, val_main_v36 (F := Ideal) x0 (ix2 R i) = ((Threshold.wt (x i) (Threshold.tau s K) : ℝ) : EReal) := fun i => by
    have i33 : idx_main_v33 (ix2 R i) = ix2 R 0 := by
      funext a; match a with | ⟨0, _⟩ => rfl | ⟨1, _⟩ => rfl
    rw [val_main_v36_apply, val_main_v35_apply, val_main_v34_apply, val_main_v33_apply, i33, ht, hx, val_main_call6_v1_apply,
      val_main_call6_v0_apply, val_main_cst_4_apply]
    show max (Ideal.ofBits .f32 0x00000000#32) ((x i : EReal) - (Threshold.tau s K : EReal))
      * max (Ideal.ofBits .f32 0x00000000#32) ((x i : EReal) - (Threshold.tau s K : EReal)) = _
    rw [Row.word_zero, max_comm, ← EReal.coe_sub, ← EReal.coe_zero, Row.coe_max, ← EReal.coe_mul]
    rfl
  have hsum : val_main_v37 (F := Ideal) x0 (ix1 R) = 1 := by
    rw [val_main_v37_apply, val_main_cst_5_apply]
    show Ideal.ofBits .f32 0x00000000#32 + _ = _
    rw [Row.word_zero, zero_add]
    have e : ∀ k : Fin 32768, idx_main_v37 (ix1 R) k = ix2 R k := fun k => by
      funext a; match a with | ⟨0, _⟩ => rfl | ⟨1, _⟩ => rfl
    rw [Finset.sum_congr rfl fun k _ => (congrArg (val_main_v36 (F := Ideal) x0) (e k)).trans (hw k), coe_sum_on, ← EReal.coe_one]
    exact congrArg _ hm
  intro i
  have i40 : idx_main_v40 (ix2 R i) = ix2 R 0 := by
    funext a; match a with | ⟨0, _⟩ => rfl | ⟨1, _⟩ => rfl
  have i38 : idx_main_v38 (ix2 R 0) = ix1 R := by
    funext a; match a with | ⟨0, _⟩ => rfl
  rw [val_main_v41_apply, hw, val_main_v40_apply, i40, val_main_v39_apply, val_main_v38_apply, i38, hsum, val_main_call7_v1_apply,
    val_main_call7_v0_apply, val_main_cst_6_apply]
  show Ideal.div _ (max Row.small 1) = _
  rw [Row.small_eq, ← EReal.coe_one, Row.coe_max, max_eq_right Row.smallR_le_one, Row.div_coe _ one_ne_zero, div_one]

end Cert.Proof.Reference

end
-- ==== Proof.Mask.lean ====
/-
  The rows the mask selects: every score real, and every score the row's top score or at least one below it. On these
  the kernel's array and the reference's are equal (`result_eq`).
-/
module

public import proofs.«01_k».proof.On_exact_rows
public import proofs.«01_k».proof.Proof.Gen.On_exact_rows
public import proofs.«01_k».proof.Proof.Array
public import proofs.«01_k».proof.Proof.Reference

@[expose] public section

noncomputable section

namespace Cert.Proof.Mask

open Idealize.ShloMosaic Idealize.ShloMosaic.TcCoe Idealize.ShloMosaic.ValueIdx
open Finset

/-- The shapes of the scores, of a column of numbers one to a row, and of those numbers in a line. -/
abbrev Full : Shape := ⟨2, ![128, 32768]⟩
abbrev Column : Shape := ⟨2, ![128, 1]⟩
abbrev Line : Shape := ⟨1, ![128]⟩

theorem word_top : Ideal.ofBits .f32 0x7F800000#32 = ⊤ := by
  simp [Ideal.ofBits, Ideal.ieee]

/-- A column spread over the rows. -/
theorem across {α : Type} (h : Column.BroadcastsInDim Full ![0, 1]) (y : Column.Idx → α) (R : Fin 128) (k : Fin 32768) :
    broadcastInDim Full ![0, 1] h y (ix2 R k) = y (ix2 R 0) :=
  broadcastInDim_apply _ h y (ix2 R k) (ix2 R 0) fun a => match a with
    | ⟨0, _⟩ => by show R.val = if (128 : Nat) = 1 then 0 else R.val; rw [if_neg (by decide)]
    | ⟨1, _⟩ => by show 0 = if (1 : Nat) = 1 then 0 else k.val; rw [if_pos rfl]

/-- A line stood up as a column. -/
theorem stood {α : Type} (h : Line.BroadcastsInDim Column ![0]) (y : Line.Idx → α) (R : Fin 128) :
    broadcastInDim Column ![0] h y (ix2 R 0) = y (ix1 R) :=
  broadcastInDim_apply _ h y (ix2 R 0) (ix1 R) fun a => match a with
    | ⟨0, _⟩ => by show R.val = if (128 : Nat) = 1 then 0 else R.val; rw [if_neg (by decide)]

/-- Scores below infinity in size are real. -/
theorem reals {n : ℕ} (x : Fin n → EReal) (h : ∀ i, max (x i) (-(x i)) < ⊤) : ∃ r : Fin n → ℝ, ∀ i, x i = (r i : EReal) := by
  refine ⟨fun i => (x i).toReal, fun i => (EReal.coe_toReal (fun ht => ?_) fun hb => ?_).symm⟩
  · have := h i
    rw [ht] at this
    exact absurd (lt_of_le_of_lt (le_max_left _ _) this) (lt_irrefl _)
  · have := h i
    rw [hb, EReal.neg_bot] at this
    exact absurd (lt_of_le_of_lt (le_max_right _ _) this) (lt_irrefl _)

/-- A row of reals has a top score. -/
theorem topped {n : ℕ} (hn : 0 < n) (r : Fin n → ℝ) : ∃ M : ℝ, (∀ i, r i ≤ M) ∧ ∃ i, r i = M := by
  haveI : Nonempty (Fin n) := ⟨⟨0, hn⟩⟩
  obtain ⟨i, hi⟩ := Finite.exists_max r
  exact ⟨r i, hi, i, rfl⟩

open Cert.On_exact_rows Cert.On_exact_rows.Facts in
/-- The row's top score, once per row. -/
def topOf (x : Vec Ideal Full .f32) : FVec Ideal Column .f32 :=
  broadcastInDim Column ![0] bcast_S128_S128x1_0
    (Host.reduce FloatOps.maximumf x (constant S_ .f32 0xFF800000#32 : FVec Ideal S_ .f32) reducesTo_S128x32768_S128_d1 h_S_)

open Cert.On_exact_rows Cert.On_exact_rows.Facts in
/-- The mask's condition on one score. -/
def cond (x : Vec Ideal Full .f32) : IVec Full 1 :=
  andi (cmpf .olt (Host.absf x) (broadcastInDim Full ![] bcast_S_S128x32768 (constant S_ .f32 0x7F800000#32 : FVec Ideal S_ .f32)))
    (ori (cmpf .oeq x (broadcastInDim Full ![0, 1] bcast_S128x1_S128x32768_0_1 (topOf x)))
      (cmpf .ole x (broadcastInDim Full ![0, 1] bcast_S128x1_S128x32768_0_1
        (subf (topOf x) (broadcastInDim Column ![] bcast_S_S128x1 (constant S_ .f32 0x3F800000#32 : FVec Ideal S_ .f32))))))

theorem topOf_row (x : Vec Ideal Full .f32) (R : Fin 128) : topOf x (ix2 R 0) = univ.sup fun k : Fin 32768 => x (ix2 R k) :=
  (stood _ _ R).trans (Rows.max_row (B := 128) (N := 32768) _ (by decide) _ x _ Row.word_bot R)

open Cert.On_exact_rows Cert.On_exact_rows.Facts in
/-- The mask: the condition on every score of a row, spread over the row. -/
theorem mask_eq (x : Vec Ideal Full .f32) : Cert.On_exact_rows.fn (F := Ideal) x
    = broadcastInDim Full ![0, 1] bcast_S128x1_S128x32768_0_1 (broadcastInDim Column ![0] bcast_S128_S128x1_0
      (Host.reduce IntOp.andi (cond x) (constantI S_ 1 1#1) reducesTo_S128x32768_S128_d1 h_S_)) := by
  unfold Cert.On_exact_rows.fn cond topOf
  rfl

open Cert.On_exact_rows Cert.On_exact_rows.Facts in
/-- Where the mask is set, its condition holds of every score of the row. -/
theorem mask_row (x : Vec Ideal Full .f32) (R : Fin 128) (k : Fin 32768)
    (h : Cert.On_exact_rows.fn (F := Ideal) x (ix2 R k) = 1#1) (i : Fin 32768) : cond x (ix2 R i) = 1#1 := by
  rw [mask_eq] at h
  generalize cond x = p at h ⊢
  have e := ((across _ _ R k).trans (stood _ _ R)).symm.trans h
  exact (Rows.all_row (B := 128) (N := 32768) reducesTo_S128x32768_S128_d1 (by decide) h_S_ p (constantI S_ 1 1#1) rfl R).mp e i

open Cert.On_exact_rows Cert.On_exact_rows.Facts in
/-- The condition, spelt out at an index. -/
theorem cond_apply (x : Vec Ideal Full .f32) (i : Full.Idx) : cond x i
    = IntOp.andi (Ideal.cmp .olt (max (x i) (-(x i))) (Ideal.ofBits .f32 0x7F800000#32))
      (IntOp.ori (Ideal.cmp .oeq (x i) (broadcastInDim Full ![0, 1] bcast_S128x1_S128x32768_0_1 (topOf x) i))
        (Ideal.cmp .ole (x i) (broadcastInDim Full ![0, 1] bcast_S128x1_S128x32768_0_1
          (subf (topOf x) (broadcastInDim Column ![] bcast_S_S128x1 (constant S_ .f32 0x3F800000#32 : FVec Ideal S_ .f32))) i))) := rfl

/-- A column less one, spread over the rows. -/
theorem less_one (h : Column.BroadcastsInDim Full ![0, 1]) (h' : Shape.BroadcastsInDim ⟨0, ![]⟩ Column ![]) (T : FVec Ideal Column .f32)
    (R : Fin 128) (i : Fin 32768) : broadcastInDim Full ![0, 1] h
      (subf T (broadcastInDim Column ![] h' (constant ⟨0, ![]⟩ .f32 0x3F800000#32 : FVec Ideal ⟨0, ![]⟩ .f32))) (ix2 R i)
      = T (ix2 R 0) - 1 := by
  rw [across, ← Row.word_one]
  rfl

theorem cond_at (x : Vec Ideal Full .f32) (R : Fin 128) (i : Fin 32768) (h : cond x (ix2 R i) = 1#1) :
    max (x (ix2 R i)) (-(x (ix2 R i))) < ⊤
      ∧ (x (ix2 R i) = (univ.sup fun k : Fin 32768 => x (ix2 R k)) ∨ x (ix2 R i) ≤ (univ.sup fun k : Fin 32768 => x (ix2 R k)) - 1) := by
  rw [cond_apply] at h
  have ht := topOf_row x R
  generalize topOf x = T at h ht
  rw [less_one, across, ht, word_top, Bits.andi_iff, Bits.ori_iff, Bits.olt_iff, Bits.oeq_iff, Bits.ole_iff] at h
  exact h

/-- ON THE SELECTED ROWS the kernel's array is the reference's. -/
theorem result_eq (x : Vec Ideal Full .f32) (i : Full.Idx) (h : Cert.On_exact_rows.fn (F := Ideal) x i = 1#1) :
    Array.result x i = Cert.ReferenceIdeal.Read.val_main_v41 (F := Ideal) x i := by
  obtain ⟨R, k, rfl⟩ : ∃ (R : Fin 128) (k : Fin 32768), i = ix2 R k := ⟨i 0, i 1, eq_ix2 i⟩
  have hc := fun j => cond_at x R j (mask_row x R k h j)
  obtain ⟨r, hr⟩ := reals (fun j => x (ix2 R j)) fun j => (hc j).1
  obtain ⟨M, hM, hex⟩ := topped (by norm_num) r
  have htop : (univ.sup fun j : Fin 32768 => x (ix2 R j)) = (M : EReal) :=
    (congrArg (fun f => univ.sup f) (funext hr)).trans (Row.top_coe hM hex)
  obtain ⟨s, hs, hw⟩ := Reference.row_weights x R r hr
  obtain ⟨t, hlow, ht, -, -, hout⟩ := Row.out_coe le_rfl hM hex
  have hap : ∀ j, r j = M ∨ r j ≤ M - 1 := fun j => by
    have h2 := (hc j).2
    rw [htop] at h2
    have e : x (ix2 R j) = (r j : EReal) := hr j
    rw [e, ← EReal.coe_one, ← EReal.coe_sub, EReal.coe_eq_coe_iff, EReal.coe_le_coe_iff] at h2
    exact h2
  have hrow : Array.rowOf x R = fun j => (r j : EReal) := funext hr
  show Row.out (Array.rowOf x R) k = _
  rw [hrow, hout, hw, Threshold.wt_of_apart hap hex hs hlow ht]

end Cert.Proof.Mask

end
-- ==== Proof.Near.lean ====
/-
  The postcondition of the kernel's array: on every row of reals its elements are weights (not negative, of sum one),
  each as near to the exact ones as the mass of the kernel's threshold is to one (`post_holds`).
-/
module

public import proofs.«01_k».proof.Post_near_entmax15
public import proofs.«01_k».proof.Proof.Gen.Post_near_entmax15
public import proofs.«01_k».proof.Proof.Mask

@[expose] public section

noncomputable section

namespace Cert.Proof.Near

open Idealize.ShloMosaic Idealize.ShloMosaic.TcCoe Idealize.ShloMosaic.ValueIdx
open Finset Mask

/-- The real behind the tolerance's constant, a little under 1e-25. -/
def slackR : ℝ := 16225928 * 2 ^ (-107 : ℤ)

theorem word_slack : Ideal.ofBits .f32 0x15F79688#32 = (slackR : EReal) := by
  unfold slackR
  simp [Ideal.ofBits, Ideal.ieee, -EReal.coe_mul]
theorem word_4096 : Ideal.ofBits .f32 0x45800000#32 = ((4096 : ℝ) : EReal) := by
  simp [Ideal.ofBits, Ideal.ieee, -EReal.coe_mul]; norm_num
theorem slack_le : (4 * 10 ^ (-26 : ℤ) : ℝ) ≤ slackR := by unfold slackR; norm_num

section
open Cert.Post_near_entmax15 Cert.Post_near_entmax15.Facts

/-- The sums of the rows. -/
def sums (u : FVec Ideal Full .f32) : FVec Ideal Column .f32 :=
  broadcastInDim Column ![0] bcast_S128_S128x1_0
    (Host.reduceAdd u (constant S_ .f32 0x00000000#32 : FVec Ideal S_ .f32) reducesTo_S128x32768_S128_d1 h_S_)

/-- Which rows hold reals only. -/
def whole (x : FVec Ideal Full .f32) : IVec Column 1 :=
  broadcastInDim Column ![0] bcast_S128_S128x1_0 (Host.reduce IntOp.andi
    (cmpf .olt (Host.absf x) (broadcastInDim Full ![] bcast_S_S128x32768 (constant S_ .f32 0x7F800000#32 : FVec Ideal S_ .f32)))
    (constantI S_ 1 1#1) reducesTo_S128x32768_S128_d1 h_S_)

/-- The excesses of the scores over a column less one. -/
def excess (x : FVec Ideal Full .f32) (T : FVec Ideal Column .f32) : FVec Ideal Full .f32 :=
  maximumf (subf x (broadcastInDim Full ![0, 1] bcast_S128x1_S128x32768_0_1
      (subf T (broadcastInDim Column ![] bcast_S_S128x1 (constant S_ .f32 0x3F800000#32 : FVec Ideal S_ .f32)))))
    (broadcastInDim Full ![] bcast_S_S128x32768 (constant S_ .f32 0x00000000#32 : FVec Ideal S_ .f32))

/-- The product of the excesses' mass, less one, and their sum. -/
def start (p q : FVec Ideal Column .f32) : FVec Ideal Column .f32 :=
  mulf (subf p (broadcastInDim Column ![] bcast_S_S128x1 (constant S_ .f32 0x3F800000#32 : FVec Ideal S_ .f32))) q

/-- The condition on results `y`, with `e` the exact ones, `b` the starting products and `s` the results' sums. -/
def judge (w : IVec Column 1) (b s : FVec Ideal Column .f32) (y e : FVec Ideal Full .f32) : IVec Full 1 :=
  ori (broadcastInDim Full ![0, 1] bcast_S128x1_S128x32768_0_1 (noti w))
    (andi (cmpf .ole (Host.absf (subf y e)) (broadcastInDim Full ![0, 1] bcast_S128x1_S128x32768_0_1
        (addf (Host.divf b (broadcastInDim Column ![] bcast_S_S128x1 (constant S_ .f32 0x45800000#32 : FVec Ideal S_ .f32)))
          (broadcastInDim Column ![] bcast_S_S128x1 (constant S_ .f32 0x15F79688#32 : FVec Ideal S_ .f32)))))
      (andi (cmpf .oge y (broadcastInDim Full ![] bcast_S_S128x32768 (constant S_ .f32 0x00000000#32 : FVec Ideal S_ .f32)))
        (broadcastInDim Full ![0, 1] bcast_S128x1_S128x32768_0_1
          (cmpf .oeq s (broadcastInDim Column ![] bcast_S_S128x1 (constant S_ .f32 0x3F800000#32 : FVec Ideal S_ .f32))))))

theorem part3_eq (w : IVec Column 1) (b : FVec Ideal Column .f32) (x y : FVec Ideal Full .f32) :
    fn_part3 (F := Ideal) y w b (Cert.ReferenceIdeal.Read.val_main_v35 (F := Ideal) x)
      = judge w b (sums y) y (Cert.ReferenceIdeal.Read.val_main_v41 (F := Ideal) x) := rfl

theorem part2_eq (w : IVec Column 1) (b : FVec Ideal Column .f32) (x y : FVec Ideal Full .f32) :
    fn_part2 (F := Ideal) x y w b (Cert.ReferenceIdeal.Read.val_main_v2 (F := Ideal) x) (Cert.ReferenceIdeal.Read.val_main_v6 (F := Ideal))
      (Cert.ReferenceIdeal.Read.val_main_v9 (F := Ideal) x) (Cert.ReferenceIdeal.Read.val_main_v17 (F := Ideal) x)
      = fn_part3 (F := Ideal) y w b (Cert.ReferenceIdeal.Read.val_main_v35 (F := Ideal) x) := rfl

theorem part1_eq (w : IVec Column 1) (x y u : FVec Ideal Full .f32) (p o : FVec Ideal Column .f32) :
    fn_part1 (F := Ideal) x y w u p o
      = fn_part2 (F := Ideal) x y w (mulf (subf p o) (sums u)) (Cert.ReferenceIdeal.Read.val_main_v2 (F := Ideal) x) (Cert.ReferenceIdeal.Read.val_main_v6 (F := Ideal))
      (Cert.ReferenceIdeal.Read.val_main_v9 (F := Ideal) x) (Cert.ReferenceIdeal.Read.val_main_v17 (F := Ideal) x) := rfl

theorem part0_eq (x y : FVec Ideal Full .f32) :
    fn (F := Ideal) x y = fn_part1 (F := Ideal) x y (whole x) (excess x (topOf x))
      (sums (mulf (excess x (topOf x)) (excess x (topOf x)))) (broadcastInDim Column ![] bcast_S_S128x1 (constant S_ .f32 0x3F800000#32 : FVec Ideal S_ .f32)) := rfl

/-- The postcondition, with the reference's array for the exact weights. -/
theorem post_eq (x y : FVec Ideal Full .f32) : fn (F := Ideal) x y
    = judge (whole x) (start (sums (mulf (excess x (topOf x)) (excess x (topOf x)))) (sums (excess x (topOf x)))) (sums y) y
      (Cert.ReferenceIdeal.Read.val_main_v41 (F := Ideal) x) := by
  rw [part0_eq, part1_eq, part2_eq, part3_eq]
  rfl

theorem sums_row (u : FVec Ideal Full .f32) (R : Fin 128) : sums u (ix2 R 0) = ∑ k : Fin 32768, u (ix2 R k) := by
  refine (stood _ _ R).trans ?_
  unfold Host.reduceAdd
  show Ideal.hostReduceAdd _ u (Ideal.ofBits .f32 0x00000000#32) (ix1 R) = _
  rw [Row.word_zero]
  exact Rows.sum_row (B := 128) (N := 32768) _ (by decide) u R

theorem whole_row (x : FVec Ideal Full .f32) (R : Fin 128) :
    whole x (ix2 R 0) = 1#1 ↔ ∀ k : Fin 32768, max (x (ix2 R k)) (-(x (ix2 R k))) < ⊤ := by
  unfold whole
  rw [stood]
  refine (Rows.all_row (B := 128) (N := 32768) _ (by decide) _ _ _ rfl R).trans (forall_congr' fun k => ?_)
  rw [← word_top]
  exact Bits.olt_iff _ _

theorem excess_row (x : FVec Ideal Full .f32) (T : FVec Ideal Column .f32) (R : Fin 128) (k : Fin 32768) :
    excess x T (ix2 R k) = Row.gap (T (ix2 R 0) - 1) (x (ix2 R k)) := by
  unfold Row.gap
  rw [← less_one bcast_S128x1_S128x32768_0_1 bcast_S_S128x1 T R k, ← Row.word_zero]
  rfl

theorem start_row (p q : FVec Ideal Column .f32) (R : Fin 128) : start p q (ix2 R 0) = (p (ix2 R 0) - 1) * q (ix2 R 0) := by
  rw [← Row.word_one]
  rfl

/-- The condition, spelt out at an index. -/
theorem judge_row (w : IVec Column 1) (b s : FVec Ideal Column .f32) (y e : FVec Ideal Full .f32) (R : Fin 128) (k : Fin 32768) :
    judge w b s y e (ix2 R k) = 1#1 ↔ ¬ w (ix2 R 0) = 1#1
      ∨ (max (y (ix2 R k) - e (ix2 R k)) (-(y (ix2 R k) - e (ix2 R k))) ≤ Ideal.div (b (ix2 R 0)) ((4096 : ℝ) : EReal) + (slackR : EReal)
        ∧ 0 ≤ y (ix2 R k) ∧ s (ix2 R 0) = 1) := by
  have hn : ∀ c : BitVec 1, ~~~c = 1#1 ↔ ¬ c = 1#1 := by decide
  have h : judge w b s y e (ix2 R k) = IntOp.ori (broadcastInDim Full ![0, 1] bcast_S128x1_S128x32768_0_1 (noti w) (ix2 R k))
    (IntOp.andi (Ideal.cmp .ole (max (y (ix2 R k) - e (ix2 R k)) (-(y (ix2 R k) - e (ix2 R k))))
      (broadcastInDim Full ![0, 1] bcast_S128x1_S128x32768_0_1
        (addf (Host.divf b (broadcastInDim Column ![] bcast_S_S128x1 (constant S_ .f32 0x45800000#32 : FVec Ideal S_ .f32)))
          (broadcastInDim Column ![] bcast_S_S128x1 (constant S_ .f32 0x15F79688#32 : FVec Ideal S_ .f32))) (ix2 R k)))
      (IntOp.andi (Ideal.cmp .oge (y (ix2 R k)) (Ideal.ofBits .f32 0x00000000#32))
        (broadcastInDim Full ![0, 1] bcast_S128x1_S128x32768_0_1
          (cmpf .oeq s (broadcastInDim Column ![] bcast_S_S128x1 (constant S_ .f32 0x3F800000#32 : FVec Ideal S_ .f32))) (ix2 R k)))) := rfl
  rw [h, across, across, across, Bits.ori_iff, Bits.andi_iff, Bits.andi_iff, Bits.ole_iff, Bits.oge_iff, Row.word_zero, ← hn (w (ix2 R 0)),
    ← word_4096, ← word_slack, ← Row.word_one, ← Bits.oeq_iff (s (ix2 R 0))]
  rfl

/-- THE KERNEL'S ARRAY MEETS THE POSTCONDITION. -/
theorem post_holds (x : FVec Ideal Full .f32) : fn (F := Ideal) x (Array.result x) = fun _ => 1#1 := by
  funext i
  obtain ⟨R, k, rfl⟩ : ∃ (R : Fin 128) (k : Fin 32768), i = ix2 R k := ⟨i 0, i 1, eq_ix2 i⟩
  rw [post_eq, judge_row, whole_row]
  by_cases hw : ∀ k : Fin 32768, max (x (ix2 R k)) (-(x (ix2 R k))) < ⊤
  swap
  · exact .inl hw
  right
  obtain ⟨r, hr⟩ := reals (fun j => x (ix2 R j)) hw
  obtain ⟨M, hM, hex⟩ := topped (by norm_num) r
  obtain ⟨s, hs, he⟩ := Reference.row_weights x R r hr
  obtain ⟨t, -, ht, hgood, -, hout⟩ := Row.out_coe le_rfl hM hex
  have hpos : 0 < Threshold.mass r t := lt_of_lt_of_le one_pos ht
  have hy : ∀ j, Array.result x (ix2 R j) = ((Threshold.wt (r j) t / Threshold.mass r t : ℝ) : EReal) := fun j => by
    have hrow : Array.rowOf x R = fun j => (r j : EReal) := funext hr
    show Row.out (Array.rowOf x R) j = _
    rw [hrow, hout]
  have htop : topOf x (ix2 R 0) = (M : EReal) :=
    (topOf_row x R).trans ((congrArg (fun f => univ.sup f) (funext hr)).trans (Row.top_coe hM hex))
  have hu : ∀ j, excess x (topOf x) (ix2 R j) = Row.gap ((M - 1 : ℝ) : EReal) (r j : EReal) := fun j => by
    rw [excess_row, htop, ← EReal.coe_one, ← EReal.coe_sub]
    exact congrArg _ (hr j)
  generalize excess x (topOf x) = u at hu ⊢
  have hp : sums (mulf u u) (ix2 R 0) = ((Threshold.mass r (M - 1) : ℝ) : EReal) := by
    rw [sums_row, ← Row.mass_coe]
    exact Finset.sum_congr rfl fun j _ => by
      show u (ix2 R j) * u (ix2 R j) = _
      rw [hu]
  have hq : sums u (ix2 R 0) = ((Threshold.part r (M - 1) : ℝ) : EReal) := by
    rw [sums_row, ← Row.part_coe]
    exact Finset.sum_congr rfl fun j _ => hu j
  rw [start_row, hp, hq, hy, he]
  refine ⟨?_, ?_, ?_⟩
  · rw [← EReal.coe_one, ← EReal.coe_sub, ← EReal.coe_sub, ← EReal.coe_neg, ← EReal.coe_mul, Row.coe_max,
      Row.div_coe _ (by norm_num), ← EReal.coe_add, EReal.coe_le_coe_iff, ← abs_eq_max_neg]
    exact (Threshold.near_of_mass hs ht k).trans (hgood.trans (add_le_add le_rfl slack_le))
  · rw [← EReal.coe_zero, EReal.coe_le_coe_iff]
    exact div_nonneg (Threshold.wt_nonneg _ _) hpos.le
  · rw [sums_row, Finset.sum_congr rfl fun j _ => hy j, Row.coe_sum, ← Finset.sum_div, ← EReal.coe_one]
    exact congrArg _ (div_self hpos.ne')

end

end Cert.Proof.Near

end
-- ==== Proof.Solver.lean ====
/-
  The array of `secant_entmax15`, the secant method on whole rows: each row of it is the row's result (`solver_eq`),
  whatever extended reals the scores are.
-/
module

public import proofs.«01_k».proof.Proof.Gen.SecantIdeal.Read
public import proofs.«01_k».proof.Proof.Mask

@[expose] public section

noncomputable section

namespace Cert.Proof.Solver

open Idealize.ShloMosaic Idealize.ShloMosaic.TcCoe Idealize.ShloMosaic.ValueIdx
open Finset Mask
open Cert.SecantIdeal Cert.SecantIdeal.Gen Cert.SecantIdeal.Read

/-- One number a row. -/
abbrev Col := FVec Ideal Column .f32

/-- One number for all rows. -/
def every (w : BitVec 32) : Col := broadcastInDim Column ![] bcast_S_S128x1 (constant S_ .f32 w : FVec Ideal S_ .f32)

/-- The excesses over a threshold a row. -/
def gaps (x : FVec Ideal Full .f32) (t : Col) : FVec Ideal Full .f32 :=
  maximumf (subf x (broadcastInDim Full ![0, 1] bcast_S128x1_S128x32768_0_1 t))
    (broadcastInDim Full ![] bcast_S_S128x32768 (constant S_ .f32 0x00000000#32 : FVec Ideal S_ .f32))

/-- The sums of the rows. -/
def sums (u : FVec Ideal Full .f32) : Col :=
  broadcastInDim Column ![0] bcast_S128_S128x1_0
    (Host.reduceAdd u (constant S_ .f32 0x00000000#32 : FVec Ideal S_ .f32) reducesTo_S128x32768_S128_d1 h_S_)

/-- The masses at a threshold a row. -/
def masses (x : FVec Ideal Full .f32) (t : Col) : Col := sums (mulf (gaps x t) (gaps x t))

/-- What a trip of the method carries: the thresholds, the ones before, the masses there and the best thresholds. -/
structure Cols where
  t : Col
  tp : Col
  fp : Col
  tb : Col

/-- One trip. -/
def step (x : FVec Ideal Full .f32) (top : Col) (s : Cols) : Cols where
  t := minimumf top (maximumf (subf top (every 0x3F800000#32)) (addf s.t (minimumf (every 0x3F800000#32) (maximumf (every 0xBF800000#32)
    (Host.divf (mulf (subf (masses x s.t) (every 0x3F800000#32)) (subf s.t s.tp))
      (select (cmpf .ogt (Host.absf (subf s.fp (masses x s.t))) (every 0x0DA24260#32)) (subf s.fp (masses x s.t)) (every 0x0DA24260#32)))))))
  tp := s.t
  fp := masses x s.t
  tb := select (cmpf .oge (masses x s.t) (every 0x3F800000#32)) (maximumf s.tb s.t) s.tb

/-- The state before the first trip. -/
def begin₀ (x : FVec Ideal Full .f32) (top : Col) : Cols where
  t := addf (subf top (every 0x3F800000#32)) (Host.divf (subf (masses x (subf top (every 0x3F800000#32))) (every 0x3F800000#32))
    (mulf (every 0x40000000#32) (maximumf (sums (gaps x (subf top (every 0x3F800000#32)))) (every 0x0DA24260#32))))
  tp := subf top (every 0x3F800000#32)
  fp := masses x (subf top (every 0x3F800000#32))
  tb := subf top (every 0x3F800000#32)

/-- The weights at a threshold a row, over their sum. -/
def finish (x : FVec Ideal Full .f32) (t : Col) : FVec Ideal Full .f32 :=
  Host.divf (mulf (gaps x t) (gaps x t))
    (broadcastInDim Full ![0, 1] bcast_S128x1_S128x32768_0_1 (maximumf (masses x t) (every 0x2B8CBCCC#32)))

/-! ## The array, trip by trip -/

section
variable (x : FVec Ideal Full .f32)

theorem trip0 : begin₀ x (val_main_v1 (F := Ideal) x)
    = ⟨val_main_v24 (F := Ideal) x, val_main_v3 (F := Ideal) x, val_main_v10 (F := Ideal) x, val_main_v3 (F := Ideal) x⟩ := by
  dsimp only [begin₀]
  rfl
theorem trip1 : step x (val_main_v1 (F := Ideal) x)
    ⟨val_main_v24 (F := Ideal) x, val_main_v3 (F := Ideal) x, val_main_v10 (F := Ideal) x, val_main_v3 (F := Ideal) x⟩
    = ⟨val_main_v54 (F := Ideal) x, val_main_v24 (F := Ideal) x, val_main_v31 (F := Ideal) x, val_main_v35 (F := Ideal) x⟩ := by
  dsimp only [step]
  rfl
theorem trip2 : step x (val_main_v1 (F := Ideal) x)
    ⟨val_main_v54 (F := Ideal) x, val_main_v24 (F := Ideal) x, val_main_v31 (F := Ideal) x, val_main_v35 (F := Ideal) x⟩
    = ⟨val_main_v84 (F := Ideal) x, val_main_v54 (F := Ideal) x, val_main_v61 (F := Ideal) x, val_main_v65 (F := Ideal) x⟩ := by
  dsimp only [step]
  rfl
theorem trip3 : step x (val_main_v1 (F := Ideal) x)
    ⟨val_main_v84 (F := Ideal) x, val_main_v54 (F := Ideal) x, val_main_v61 (F := Ideal) x, val_main_v65 (F := Ideal) x⟩
    = ⟨val_main_v114 (F := Ideal) x, val_main_v84 (F := Ideal) x, val_main_v91 (F := Ideal) x, val_main_v95 (F := Ideal) x⟩ := by
  dsimp only [step]
  rfl
theorem trip4 : step x (val_main_v1 (F := Ideal) x)
    ⟨val_main_v114 (F := Ideal) x, val_main_v84 (F := Ideal) x, val_main_v91 (F := Ideal) x, val_main_v95 (F := Ideal) x⟩
    = ⟨val_main_v144 (F := Ideal) x, val_main_v114 (F := Ideal) x, val_main_v121 (F := Ideal) x, val_main_v125 (F := Ideal) x⟩ := by
  dsimp only [step]
  rfl
theorem trip5 : step x (val_main_v1 (F := Ideal) x)
    ⟨val_main_v144 (F := Ideal) x, val_main_v114 (F := Ideal) x, val_main_v121 (F := Ideal) x, val_main_v125 (F := Ideal) x⟩
    = ⟨val_main_v174 (F := Ideal) x, val_main_v144 (F := Ideal) x, val_main_v151 (F := Ideal) x, val_main_v155 (F := Ideal) x⟩ := by
  dsimp only [step]
  rfl
theorem trip6 : step x (val_main_v1 (F := Ideal) x)
    ⟨val_main_v174 (F := Ideal) x, val_main_v144 (F := Ideal) x, val_main_v151 (F := Ideal) x, val_main_v155 (F := Ideal) x⟩
    = ⟨val_main_v204 (F := Ideal) x, val_main_v174 (F := Ideal) x, val_main_v181 (F := Ideal) x, val_main_v185 (F := Ideal) x⟩ := by
  dsimp only [step]
  rfl

theorem finish_eq : val_main_v220 (F := Ideal) x = finish x (val_main_v185 (F := Ideal) x) := rfl

/-- The array: the weights at the best threshold of six trips, over their sum. -/
theorem array_eq : val_main_v220 (F := Ideal) x
    = finish x ((step x (val_main_v1 (F := Ideal) x))^[6] (begin₀ x (val_main_v1 (F := Ideal) x))).tb := by
  simp only [Function.iterate_succ_apply, Function.iterate_zero_apply]
  rw [trip0, trip1, trip2, trip3, trip4, trip5, trip6]
  dsimp only
  exact finish_eq x

end

/-! ## A row -/

theorem sums_row (u : FVec Ideal Full .f32) (R : Fin 128) : sums u (ix2 R 0) = ∑ k : Fin 32768, u (ix2 R k) := by
  refine (stood _ _ R).trans ?_
  unfold Host.reduceAdd
  show Ideal.hostReduceAdd _ u (Ideal.ofBits .f32 0x00000000#32) (ix1 R) = _
  rw [Row.word_zero]
  exact Rows.sum_row (B := 128) (N := 32768) _ (by decide) u R

theorem gaps_row (x : FVec Ideal Full .f32) (t : Col) (R : Fin 128) (k : Fin 32768) :
    gaps x t (ix2 R k) = Row.gap (t (ix2 R 0)) (x (ix2 R k)) := by
  unfold Row.gap
  rw [← across bcast_S128x1_S128x32768_0_1 t R k, ← Row.word_zero]
  rfl

theorem masses_row (x : FVec Ideal Full .f32) (t : Col) (R : Fin 128) :
    masses x t (ix2 R 0) = Row.mass (Array.rowOf x R) (t (ix2 R 0)) := by
  unfold masses Row.mass
  rw [sums_row]
  refine Finset.sum_congr rfl fun k _ => ?_
  show gaps x t (ix2 R k) * gaps x t (ix2 R k) = _
  rw [gaps_row]
  rfl

theorem parts_row (x : FVec Ideal Full .f32) (t : Col) (R : Fin 128) :
    sums (gaps x t) (ix2 R 0) = Row.part (Array.rowOf x R) (t (ix2 R 0)) := by
  unfold Row.part
  rw [sums_row]
  exact Finset.sum_congr rfl fun k _ => gaps_row x t R k

/-- A row of the carried columns, as the state of that row. -/
def At (R : Fin 128) (s : Cols) (q : Row.State) : Prop :=
  s.t (ix2 R 0) = q.t ∧ s.tp (ix2 R 0) = q.tp ∧ s.fp (ix2 R 0) = q.fp ∧ s.tb (ix2 R 0) = q.tb

theorem begin_row (x : FVec Ideal Full .f32) (top : Col) (R : Fin 128) :
    At R (begin₀ x top) (Row.start (top (ix2 R 0)) (Array.rowOf x R)) := by
  have hl : subf top (every 0x3F800000#32) (ix2 R 0) = top (ix2 R 0) - 1 := by rw [← Row.word_one]; rfl
  have hm := masses_row x (subf top (every 0x3F800000#32)) R
  have hp := parts_row x (subf top (every 0x3F800000#32)) R
  rw [hl] at hm hp
  simp only [At, begin₀, Row.start]
  refine ⟨?_, hl, hm, hl⟩
  rw [← hm, ← hp, ← hl, ← Row.word_one, ← Row.word_two]
  generalize masses x _ = f
  generalize sums _ = p
  generalize subf top _ = l
  rfl

theorem best_eq (f t tb : EReal) :
    Scalar.select (Ideal.cmp .oge f 1) (max tb t) tb = Row.bestT f t tb := by
  unfold Row.bestT
  by_cases h : 1 ≤ f
  · rw [Bits.select_true ((Bits.oge_iff f 1).mpr h)]
    by_cases h' : tb < t
    · rw [if_pos ⟨h, h'⟩, max_eq_right h'.le]
    · rw [if_neg fun hh => h' hh.2, max_eq_left (not_lt.mp h')]
  · rw [if_neg fun hh => h hh.1]
    exact Bits.select_same _ _ _ fun hc => absurd ((Bits.oge_iff f 1).mp hc) h

theorem fall_eq (d : EReal) : Scalar.select (Ideal.cmp .ogt (max d (-d)) Row.tiny) d Row.tiny = if Row.tiny < max d (-d) then d else Row.tiny := by
  by_cases h : Row.tiny < max d (-d)
  · rw [if_pos h, Bits.select_true ((Bits.ogt_iff _ _).mpr h)]
  · rw [if_neg h]
    exact Bits.select_same _ _ _ fun hc => absurd ((Bits.ogt_iff _ _).mp hc) h

theorem step_row (x : FVec Ideal Full .f32) (top : Col) (R : Fin 128) (s : Cols) (q : Row.State) (h : At R s q) :
    At R (step x top s) (Row.next (top (ix2 R 0)) (Row.mass (Array.rowOf x R)) q) := by
  obtain ⟨ht, hp, hf, hb⟩ := h
  have hm := masses_row x s.t R
  rw [ht] at hm
  simp only [At, step, Row.next, Row.secant]
  refine ⟨?_, ht, hm, ?_⟩
  · generalize masses x s.t = f at hm
    rw [← hm, ← ht, ← hp, ← hf, ← fall_eq, ← Row.word_neg_one, ← Row.word_one]
    rfl
  · generalize masses x s.t = f at hm
    rw [← hm, ← ht, ← hb, ← best_eq, ← Row.word_one]
    rfl

/-- The best threshold's mass is the one carried with it. -/
theorem best_mass {n : ℕ} (x : Fin n → EReal) (m : EReal) (k : ℕ) :
    ((Row.next m (Row.mass x))^[k] (Row.start m x)).fb = Row.mass x ((Row.next m (Row.mass x))^[k] (Row.start m x)).tb := by
  induction k with
  | zero => rfl
  | succ k ih =>
    rw [Function.iterate_succ_apply']
    generalize (Row.next m (Row.mass x))^[k] (Row.start m x) = s at ih
    simp only [Row.next, Row.bestF, Row.bestT]
    by_cases h1 : 1 ≤ Row.mass x s.t
    · by_cases h2 : s.tb < s.t
      · simp only [h1, h2, and_self, if_true, le_refl]
      · by_cases h3 : s.tb ≤ s.t
        · have : s.tb = s.t := le_antisymm h3 (not_lt.mp h2)
          simp only [h1, h2, h3, and_self, if_true, and_false, if_false]
          rw [this]
        · simp only [h1, h2, h3, and_false, if_false]
          exact ih
    · simp only [h1, false_and, if_false]
      exact ih

/-- A quotient is a product with the reciprocal. -/
theorem div_eq (a : EReal) {b : EReal} (h : 0 < b) : Ideal.div a b = a * Ideal.div 1 b := by
  unfold Ideal.div
  rw [if_neg h.ne', if_neg h.ne', one_mul]

/-- THE SOLVER'S ARRAY is every row's result. -/
theorem solver_eq (x : FVec Ideal Full .f32) : val_main_v220 (F := Ideal) x = Array.result x := by
  rw [array_eq]
  have htop : ∀ R : Fin 128, val_main_v1 (F := Ideal) x (ix2 R 0) = Row.top (Array.rowOf x R) := fun R =>
    (stood _ _ R).trans (Rows.max_row (B := 128) (N := 32768) _ (by decide) _ x _ Row.word_bot R)
  generalize val_main_v1 (F := Ideal) x = top at htop ⊢
  funext i
  obtain ⟨R, k, rfl⟩ : ∃ (R : Fin 128) (k : Fin 32768), i = ix2 R k := ⟨i 0, i 1, eq_ix2 i⟩
  have hall : ∀ j : ℕ, At R ((step x top)^[j] (begin₀ x top))
      ((Row.next (Row.top (Array.rowOf x R)) (Row.mass (Array.rowOf x R)))^[j] (Row.start (Row.top (Array.rowOf x R)) (Array.rowOf x R))) := by
    intro j
    rw [← htop R]
    induction j with
    | zero => exact begin_row x top R
    | succ j ih =>
      rw [Function.iterate_succ_apply', Function.iterate_succ_apply']
      exact step_row x top R _ _ ih
  have hb := (hall 6).2.2.2
  have hfb := best_mass (Array.rowOf x R) (Row.top (Array.rowOf x R)) 6
  show _ = Row.out (Array.rowOf x R) k
  unfold Row.out Row.final
  rw [hfb, ← hb]
  generalize ((step x top)^[6] (begin₀ x top)).tb = t
  have hs : 0 < max (Row.mass (Array.rowOf x R) (t (ix2 R 0))) Row.small := by
    refine lt_of_lt_of_le ?_ (le_max_right _ _)
    rw [Row.small_eq, ← EReal.coe_zero, EReal.coe_lt_coe_iff]
    unfold Row.smallR
    positivity
  rw [← div_eq _ hs, ← masses_row]
  have hg := gaps_row x t R k
  unfold finish
  generalize gaps x t = g at hg ⊢
  generalize masses x t = f at ⊢
  show Ideal.div (g (ix2 R k) * g (ix2 R k)) (broadcastInDim Full ![0, 1] bcast_S128x1_S128x32768_0_1 (maximumf f (every 0x2B8CBCCC#32)) (ix2 R k)) = _
  rw [across, hg]
  rfl

end Cert.Proof.Solver

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.SecantIdeal
public import proofs.«01_k».proof.Proof.Gen.SecantIdeal.Run
public import proofs.«01_k».proof.Proof.Gen.SecantIdeal.Read
public import proofs.«01_k».proof.Proof.Gen.Post_near_entmax15
public import proofs.«01_k».proof.Proof.Gen.On_exact_rows
public import proofs.«01_k».proof.Proof.Array
public import proofs.«01_k».proof.Proof.Reference
public import proofs.«01_k».proof.Proof.Mask
public import proofs.«01_k».proof.Proof.Near
public import proofs.«01_k».proof.Proof.Solver
public import Idealize.ShloMosaic.Adequacy
public import Idealize.ShloMosaic.Init

@[expose] public section

noncomputable section

namespace Cert.Proof

open Idealize.ShloMosaic Idealize.ShloMosaic.TcCoe Idealize.SL.Sem

/-- The reference's run: its result is the array read in `Reference`, its argument is unchanged. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      fun r => ∀ c : Dev Cert.ReferenceIdeal.nD,
        r.2.mem ((c.tc : Thread Cert.ReferenceIdeal.nD Cert.ReferenceIdeal.τ).loc Cert.ReferenceIdeal.main_v41)
          = Cert.ReferenceIdeal.Read.val_main_v41 (F := Ideal) (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0) :=
  (θ_run Cert.ReferenceIdeal.defs _ _).mono
    (fun _ h c => ⟨(h c).1.trans (Cert.ReferenceIdeal.Read.val_main_v41_eq (F := Ideal) (StableHlo.launchContents m c)), (h c).2⟩)
    (Cert.ReferenceIdeal.Value.run (F := Ideal) m g)

theorem frame_reference : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

/-- On the rows the mask selects, the kernel's array is the reference's. -/
theorem algebraic : Cert.algebraic_KernelIdeal_ReferenceIdeal_on_exact_rows := by
  intro m g m' g' _ hagree
  refine ⟨fun c => Cert.ReferenceIdeal.Read.val_main_v41 (F := Ideal)
    (m ((c.tc : Thread Cert.KernelIdeal.nD Cert.KernelIdeal.τ).loc Cert.KernelIdeal.main_arg0)), ?_, ?_⟩
  · exact (θ_run Cert.KernelIdeal.defs _ _).mono
      (fun r h c => ⟨fun i hi => (congrFun (h c).1 i).trans (Mask.result_eq _ i hi), (h c).2⟩) (Array.run_rows m g)
  · refine (θ_run Cert.ReferenceIdeal.defs _ _).mono (fun r h c => ⟨fun i _ => ?_, (h c).2⟩) (reference_run m' g')
    refine (congrFun (h c).1 i).trans ?_
    rw [hagree c]

theorem frame_secant : Cert.quiescent_SecantIdeal := fun m g _ =>
  (θ_run Cert.SecantIdeal.defs _ _).mono
    (fun r h => ⟨fun c => (h c).2, sem_eq_zero_of_no_sems (by decide) r.2⟩)
    (Cert.SecantIdeal.Value.run (F := Ideal) m g)

/-- On all arguments, the kernel's array is that of the secant method on whole rows. -/
theorem algebraic_secant : Cert.algebraic_KernelIdeal_SecantIdeal := by
  intro m g m' g' _ hagree
  refine ⟨fun c => Array.result (m ((c.tc : Thread Cert.KernelIdeal.nD Cert.KernelIdeal.τ).loc Cert.KernelIdeal.main_arg0)),
    Array.run_rows m g, ?_⟩
  refine (θ_run Cert.SecantIdeal.defs _ _).mono (fun r h c => ⟨(h c).1.trans ?_, (h c).2⟩) (Cert.SecantIdeal.Value.run (F := Ideal) m' g')
  refine (Cert.SecantIdeal.Read.val_main_v220_eq (F := Ideal) (StableHlo.launchContents m' c)).trans ?_
  refine (Solver.solver_eq _).trans (congrArg Array.result ?_)
  exact hagree c

/-- The kernel's array meets the postcondition. -/
theorem holds : Cert.holds_KernelIdeal_near_entmax15 := fun m g _ =>
  (θ_run Cert.KernelIdeal.defs _ _).mono
    (fun r h c => ⟨(h c).2, by rw [(h c).1]; exact Near.post_holds _⟩) (Array.run_rows m g)

theorem claim : Cert.Claim := ⟨Cert.Kernel.Gen.facts, Cert.KernelIdeal.Gen.facts, Cert.ReferenceIdeal.Gen.facts, Cert.SecantIdeal.Gen.facts,
  Cert.Post_near_entmax15.Gen.facts, Cert.On_exact_rows.Gen.facts,
  fun m g _ => Cert.Kernel.Gen.frame m g, fun m g _ => Cert.KernelIdeal.Gen.frame m g, frame_reference, frame_secant, trivial, algebraic,
  algebraic_secant, holds⟩

end Cert.Proof

end
